-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v334) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x64 : Shape := ⟨3, ![4, 8192, 64]⟩
abbrev S4x8192x3 : Shape := ⟨3, ![4, 8192, 3]⟩
abbrev S4x8192 : Shape := ⟨2, ![4, 8192]⟩
abbrev S640x32 : Shape := ⟨2, ![640, 32]⟩
abbrev S32 : Shape := ⟨1, ![32]⟩
abbrev S32x32 : Shape := ⟨2, ![32, 32]⟩
abbrev S192x32x1x1 : Shape := ⟨4, ![192, 32, 1, 1]⟩
abbrev S192x1x5x5 : Shape := ⟨4, ![192, 1, 5, 5]⟩
abbrev S192x8x1x1 : Shape := ⟨4, ![192, 8, 1, 1]⟩
abbrev S64x128x1x1 : Shape := ⟨4, ![64, 128, 1, 1]⟩
abbrev S64 : Shape := ⟨1, ![64]⟩
abbrev S2025x81 : Shape := ⟨2, ![2025, 81]⟩
abbrev S4x8192x1 : Shape := ⟨3, ![4, 8192, 1]⟩
abbrev S4x1x8192 : Shape := ⟨3, ![4, 1, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x810x64 : Shape := ⟨3, ![4, 810, 64]⟩
abbrev S1x1x8192 : Shape := ⟨3, ![1, 1, 8192]⟩
abbrev S1x8192x64 : Shape := ⟨3, ![1, 8192, 64]⟩
abbrev S1x810x64 : Shape := ⟨3, ![1, 810, 64]⟩
abbrev S81x256 : Shape := ⟨2, ![81, 256]⟩
abbrev S810x256 : Shape := ⟨2, ![810, 256]⟩
abbrev S81x1 : Shape := ⟨2, ![81, 1]⟩
abbrev S810x64 : Shape := ⟨2, ![810, 64]⟩
abbrev S1x1x256 : Shape := ⟨3, ![1, 1, 256]⟩
abbrev S1x256x64 : Shape := ⟨3, ![1, 256, 64]⟩
abbrev S256x64 : Shape := ⟨2, ![256, 64]⟩
abbrev S81 : Shape := ⟨1, ![81]⟩
abbrev S192x32 : Shape := ⟨2, ![192, 32]⟩
abbrev S32x192 : Shape := ⟨2, ![32, 192]⟩
abbrev S192x5x5 : Shape := ⟨3, ![192, 5, 5]⟩
abbrev S192x25 : Shape := ⟨2, ![192, 25]⟩
abbrev S25x192 : Shape := ⟨2, ![25, 192]⟩
abbrev S192x8 : Shape := ⟨2, ![192, 8]⟩
abbrev S24x8x8 : Shape := ⟨3, ![24, 8, 8]⟩
abbrev S24x8x1x8 : Shape := ⟨4, ![24, 8, 1, 8]⟩
abbrev S24x24 : Shape := ⟨2, ![24, 24]⟩
abbrev S_ : Shape := ⟨0, ![]⟩
abbrev S24x1x24x1 : Shape := ⟨4, ![24, 1, 24, 1]⟩
abbrev S24x8x24x8 : Shape := ⟨4, ![24, 8, 24, 8]⟩
abbrev S192x192 : Shape := ⟨2, ![192, 192]⟩
abbrev S64x128 : Shape := ⟨2, ![64, 128]⟩
abbrev S128x64 : Shape := ⟨2, ![128, 64]⟩
abbrev S1x64 : Shape := ⟨2, ![1, 64]⟩
abbrev S1x32 : Shape := ⟨2, ![1, 32]⟩
abbrev S81x64 : Shape := ⟨2, ![81, 64]⟩
abbrev S64x32 : Shape := ⟨2, ![64, 32]⟩
abbrev S81x32 : Shape := ⟨2, ![81, 32]⟩
abbrev S81x192 : Shape := ⟨2, ![81, 192]⟩
abbrev S2025x192 : Shape := ⟨2, ![2025, 192]⟩
abbrev S1x192 : Shape := ⟨2, ![1, 192]⟩
abbrev S81x384 : Shape := ⟨2, ![81, 384]⟩
abbrev S81x8 : Shape := ⟨2, ![81, 8]⟩
abbrev S81x9 : Shape := ⟨2, ![81, 9]⟩
abbrev S8x9 : Shape := ⟨2, ![8, 9]⟩
abbrev S81x128 : Shape := ⟨2, ![81, 128]⟩
abbrev S81x2048 : Shape := ⟨2, ![81, 2048]⟩
abbrev S1x1x2048 : Shape := ⟨3, ![1, 1, 2048]⟩
abbrev S1x2048 : Shape := ⟨2, ![1, 2048]⟩
abbrev S2048x64 : Shape := ⟨2, ![2048, 64]⟩
abbrev S1x2048x64 : Shape := ⟨3, ![1, 2048, 64]⟩

abbrev nBuf : Space → Nat
  | .hbm => 66
  | .vmem => 30
  | .smem => 0
  | _ => 0

abbrev bufTy : (tb : Table) → Fin (tcTables nBuf tb) → BufTy
  | .hbm, ⟨0, _⟩ => ⟨S4x8192x64, .f32⟩
  | .hbm, ⟨1, _⟩ => ⟨S4x8192x3, .f32⟩
  | .hbm, ⟨2, _⟩ => ⟨S4x8192, .i1⟩
  | .hbm, ⟨3, _⟩ => ⟨S640x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S192x32x1x1, .f32⟩
  | .hbm, ⟨8, _⟩ => ⟨S192x1x5x5, .f32⟩
  | .hbm, ⟨9, _⟩ => ⟨S192x8x1x1, .f32⟩
  | .hbm, ⟨10, _⟩ => ⟨S64x128x1x1, .f32⟩
  | .hbm, ⟨11, _⟩ => ⟨S64, .f32⟩
  | .hbm, ⟨12, _⟩ => ⟨S64, .f32⟩
  | .hbm, ⟨13, _⟩ => ⟨S2025x81, .f32⟩
  | .hbm, ⟨14, _⟩ => ⟨S4x8192x1, .f32⟩
  | .hbm, ⟨15, _⟩ => ⟨S4x8192, .f32⟩
  | .hbm, ⟨16, _⟩ => ⟨S4x1x8192, .f32⟩
  | .hbm, ⟨17, _⟩ => ⟨S4x8192x1, .f32⟩
  | .hbm, ⟨18, _⟩ => ⟨S4x8192, .f32⟩
  | .hbm, ⟨19, _⟩ => ⟨S4x8192x1, .f32⟩
  | .hbm, ⟨20, _⟩ => ⟨S4x8192, .f32⟩
  | .hbm, ⟨21, _⟩ => ⟨S4x8192, .f32⟩
  | .hbm, ⟨22, _⟩ => ⟨S4x1x8192, .f32⟩
  | .hbm, ⟨23, _⟩ => ⟨S4x8192, .f32⟩
  | .hbm, ⟨24, _⟩ => ⟨S4x1x8192, .f32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S1x256, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S256x256, .f32⟩
  | .hbm, ⟨33, _⟩ => ⟨S4x810x64, .f32⟩
  | .hbm, ⟨34, _⟩ => ⟨S4x1x8192, .f32⟩
  | .hbm, ⟨35, _⟩ => ⟨S192x32, .f32⟩
  | .hbm, ⟨36, _⟩ => ⟨S32x192, .f32⟩
  | .hbm, ⟨37, _⟩ => ⟨S192x5x5, .f32⟩
  | .hbm, ⟨38, _⟩ => ⟨S192x25, .f32⟩
  | .hbm, ⟨39, _⟩ => ⟨S25x192, .f32⟩
  | .hbm, ⟨40, _⟩ => ⟨S192x8, .f32⟩
  | .hbm, ⟨41, _⟩ => ⟨S24x8x8, .f32⟩
  | .hbm, ⟨42, _⟩ => ⟨S24x8x1x8, .f32⟩
  | .hbm, ⟨43, _⟩ => ⟨S24x24, .i32⟩
  | .hbm, ⟨44, _⟩ => ⟨S24x24, .i32⟩
  | .hbm, ⟨45, _⟩ => ⟨S_, .i32⟩
  | .hbm, ⟨46, _⟩ => ⟨S24x24, .i32⟩
  | .hbm, ⟨47, _⟩ => ⟨S24x24, .i32⟩
  | .hbm, ⟨48, _⟩ => ⟨S24x24, .i1⟩
  | .hbm, ⟨49, _⟩ => ⟨S24x24, .f32⟩
  | .hbm, ⟨50, _⟩ => ⟨S24x1x24x1, .f32⟩
  | .hbm, ⟨51, _⟩ => ⟨S24x8x24x8, .f32⟩
  | .hbm, ⟨52, _⟩ => ⟨S24x8x24x8, .f32⟩
  | .hbm, ⟨53, _⟩ => ⟨S24x8x24x8, .f32⟩
  | .hbm, ⟨54, _⟩ => ⟨S192x192, .f32⟩
  | .hbm, ⟨55, _⟩ => ⟨S192x192, .f32⟩
  | .hbm, ⟨56, _⟩ => ⟨S64x128, .f32⟩
  | .hbm, ⟨57, _⟩ => ⟨S128x64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S1x64, .f32⟩
  | .hbm, ⟨62, _⟩ => ⟨S1x64, .f32⟩
  | .hbm, ⟨63, _⟩ => ⟨S1x32, .f32⟩
  | .hbm, ⟨64, _⟩ => ⟨S1x32, .f32⟩
  | .hbm, ⟨65, _⟩ => ⟨S4x8192x64, .f32⟩
  | .local _ .vmem, ⟨0, _⟩ => ⟨S1x1x8192, .f32⟩
  | .local _ .vmem, ⟨1, _⟩ => ⟨S1x1x8192, .f32⟩
  | .local _ .vmem, ⟨2, _⟩ => ⟨S1x1x8192, .f32⟩
  | .local _ .vmem, ⟨3, _⟩ => ⟨S1x1x8192, .f32⟩
  | .local _ .vmem, ⟨4, _⟩ => ⟨S1x1x8192, .f32⟩
  | .local _ .vmem, ⟨5, _⟩ => ⟨S1x1x8192, .f32⟩
  | .local _ .vmem, ⟨6, _⟩ => ⟨S1x8192x64, .f32⟩
  | .local _ .vmem, ⟨7, _⟩ => ⟨S1x8192x64, .f32⟩
  | .local _ .vmem, ⟨8, _⟩ => ⟨S256x256, .f32⟩
  | .local _ .vmem, ⟨9, _⟩ => ⟨S1x810x64, .f32⟩
  | .local _ .vmem, ⟨10, _⟩ => ⟨S1x810x64, .f32⟩
  | .local _ .vmem, ⟨11, _⟩ => ⟨S1x1x8192, .f32⟩
  | .local _ .vmem, ⟨12, _⟩ => ⟨S1x1x8192, .f32⟩
  | .local _ .vmem, ⟨13, _⟩ => ⟨S1x810x64, .f32⟩
  | .local _ .vmem, ⟨14, _⟩ => ⟨S1x810x64, .f32⟩
  | .local _ .vmem, ⟨15, _⟩ => ⟨S640x32, .f32⟩
  | .local _ .vmem, ⟨16, _⟩ => ⟨S1x32, .f32⟩
  | .local _ .vmem, ⟨17, _⟩ => ⟨S32x32, .f32⟩
  | .local _ .vmem, ⟨18, _⟩ => ⟨S1x32, .f32⟩
  | .local _ .vmem, ⟨19, _⟩ => ⟨S32x192, .f32⟩
  | .local _ .vmem, ⟨20, _⟩ => ⟨S2025x81, .f32⟩
  | .local _ .vmem, ⟨21, _⟩ => ⟨S25x192, .f32⟩
  | .local _ .vmem, ⟨22, _⟩ => ⟨S192x192, .f32⟩
  | .local _ .vmem, ⟨23, _⟩ => ⟨S128x64, .f32⟩
  | .local _ .vmem, ⟨24, _⟩ => ⟨S1x64, .f32⟩
  | .local _ .vmem, ⟨25, _⟩ => ⟨S1x64, .f32⟩
  | .local _ .vmem, ⟨26, _⟩ => ⟨S1x1x8192, .f32⟩
  | .local _ .vmem, ⟨27, _⟩ => ⟨S1x1x8192, .f32⟩
  | .local _ .vmem, ⟨28, _⟩ => ⟨S1x8192x64, .f32⟩
  | .local _ .vmem, ⟨29, _⟩ => ⟨S1x8192x64, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg12_1 : Ref sig .tc := ⟨.vmem, 27, rfl⟩
abbrev cc1_stg13_0 : Ref sig .tc := ⟨.vmem, 28, rfl⟩
abbrev cc1_stg13_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem12_1 : DmaSem sig := 27
abbrev cc1_sem13_0 : DmaSem sig := 28
abbrev cc1_sem13_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x810x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x810x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S640x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2025x81 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S25x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S192x192 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x1x8192 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x8192x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S4x8192x64 : Shape := ⟨3, ![4, 8192, 64]⟩
abbrev S4x8192x3 : Shape := ⟨3, ![4, 8192, 3]⟩
abbrev S4x8192 : Shape := ⟨2, ![4, 8192]⟩
abbrev S640x32 : Shape := ⟨2, ![640, 32]⟩
abbrev S32 : Shape := ⟨1, ![32]⟩
abbrev S32x32 : Shape := ⟨2, ![32, 32]⟩
abbrev S192x32x1x1 : Shape := ⟨4, ![192, 32, 1, 1]⟩
abbrev S192x1x5x5 : Shape := ⟨4, ![192, 1, 5, 5]⟩
abbrev S192x8x1x1 : Shape := ⟨4, ![192, 8, 1, 1]⟩
abbrev S64x128x1x1 : Shape := ⟨4, ![64, 128, 1, 1]⟩
abbrev S64 : Shape := ⟨1, ![64]⟩
abbrev S10 : Shape := ⟨1, ![10]⟩
abbrev S4x8192x1 : Shape := ⟨3, ![4, 8192, 1]⟩
abbrev S1x1x10 : Shape := ⟨3, ![1, 1, 10]⟩
abbrev S4x8192x10 : Shape := ⟨3, ![4, 8192, 10]⟩
abbrev S_ : Shape := ⟨0, ![]⟩
abbrev S1x1x81 : Shape := ⟨3, ![1, 1, 81]⟩
abbrev S4x8192x81 : Shape := ⟨3, ![4, 8192, 81]⟩
abbrev S4x8192x1x1 : Shape := ⟨4, ![4, 8192, 1, 1]⟩
abbrev S1 : Shape := ⟨1, ![1]⟩
abbrev S1x1x1x1 : Shape := ⟨4, ![1, 1, 1, 1]⟩
abbrev S4 : Shape := ⟨1, ![4]⟩
abbrev S4x1 : Shape := ⟨2, ![4, 1]⟩
abbrev S4x811x64 : Shape := ⟨3, ![4, 811, 64]⟩
abbrev S4x8192x2 : Shape := ⟨3, ![4, 8192, 2]⟩
abbrev S4x811 : Shape := ⟨2, ![4, 811]⟩
abbrev S4x810x64 : Shape := ⟨3, ![4, 810, 64]⟩
abbrev S4x9x9x10x64 : Shape := ⟨5, ![4, 9, 9, 10, 64]⟩
abbrev S4x810 : Shape := ⟨2, ![4, 810]⟩
abbrev S4x9x9x10 : Shape := ⟨4, ![4, 9, 9, 10]⟩
abbrev S4x9x9x10x1 : Shape := ⟨5, ![4, 9, 9, 10, 1]⟩
abbrev S4x9x9x640 : Shape := ⟨4, ![4, 9, 9, 640]⟩
abbrev S4x9x9x32 : Shape := ⟨4, ![4, 9, 9, 32]⟩
abbrev S1x1x1x32 : Shape := ⟨4, ![1, 1, 1, 32]⟩
abbrev S4x32x9x9 : Shape := ⟨4, ![4, 32, 9, 9]⟩
abbrev S4x1x32x9x9 : Shape := ⟨5, ![4, 1, 32, 9, 9]⟩
abbrev S192x32 : Shape := ⟨2, ![192, 32]⟩
abbrev S1x192x32 : Shape := ⟨3, ![1, 192, 32]⟩
abbrev S1x192x4x9x9 : Shape := ⟨5, ![1, 192, 4, 9, 9]⟩
abbrev S4x1x192x9x9 : Shape := ⟨5, ![4, 1, 192, 9, 9]⟩
abbrev S4x192x9x9 : Shape := ⟨4, ![4, 192, 9, 9]⟩
abbrev S4x192x13x13 : Shape := ⟨4, ![4, 192, 13, 13]⟩
abbrev S192x1x1x1 : Shape := ⟨4, ![192, 1, 1, 1]⟩
abbrev S192 : Shape := ⟨1, ![192]⟩
abbrev S1x192x1x1 : Shape := ⟨4, ![1, 192, 1, 1]⟩
abbrev S4x24x8x9x9 : Shape := ⟨5, ![4, 24, 8, 9, 9]⟩
abbrev S192x8 : Shape := ⟨2, ![192, 8]⟩
abbrev S24x8x8 : Shape := ⟨3, ![24, 8, 8]⟩
abbrev S24x8x4x9x9 : Shape := ⟨5, ![24, 8, 4, 9, 9]⟩
abbrev S4x384x9x9 : Shape := ⟨4, ![4, 384, 9, 9]⟩
abbrev S4x16x24x81 : Shape := ⟨4, ![4, 16, 24, 81]⟩
abbrev S4x16x8x81 : Shape := ⟨4, ![4, 16, 8, 81]⟩
abbrev S4x16x81x8 : Shape := ⟨4, ![4, 16, 81, 8]⟩
abbrev S4x16x1x81 : Shape := ⟨4, ![4, 16, 1, 81]⟩
abbrev S4x16x9x81 : Shape := ⟨4, ![4, 16, 9, 81]⟩
abbrev S4x16x9x8 : Shape := ⟨4, ![4, 16, 9, 8]⟩
abbrev S4x128x9x9 : Shape := ⟨4, ![4, 128, 9, 9]⟩
abbrev S4x1x128x9x9 : Shape := ⟨5, ![4, 1, 128, 9, 9]⟩
abbrev S64x128 : Shape := ⟨2, ![64, 128]⟩
abbrev S1x64x128 : Shape := ⟨3, ![1, 64, 128]⟩
abbrev S1x64x4x9x9 : Shape := ⟨5, ![1, 64, 4, 9, 9]⟩
abbrev S4x1x64x9x9 : Shape := ⟨5, ![4, 1, 64, 9, 9]⟩
abbrev S4x64x9x9 : Shape := ⟨4, ![4, 64, 9, 9]⟩
abbrev S1x64x1x1 : Shape := ⟨4, ![1, 64, 1, 1]⟩
abbrev S4x64x81 : Shape := ⟨3, ![4, 64, 81]⟩
abbrev S4x1x8192 : Shape := ⟨3, ![4, 1, 8192]⟩
abbrev S1x1x1 : Shape := ⟨3, ![1, 1, 1]⟩
abbrev S4x64x8192 : Shape := ⟨3, ![4, 64, 8192]⟩

abbrev nBuf : Space → Nat
  | .hbm => 446
  | .vmem => 0
  | .smem => 0
  | _ => 0

abbrev hbmTy0_0 (i : Nat) : BufTy := match i % 128 with
  | 0 => ⟨S4x8192x64, .f32⟩
  | 1 => ⟨S4x8192x3, .f32⟩
  | 2 => ⟨S4x8192, .i1⟩
  | 3 => ⟨S640x32, .f32⟩
  | 4 => ⟨S32, .f32⟩
  | 5 => ⟨S32x32, .f32⟩
  | 6 => ⟨S32, .f32⟩
  | 7 => ⟨S192x32x1x1, .f32⟩
  | 8 => ⟨S192x1x5x5, .f32⟩
  | 9 => ⟨S192x8x1x1, .f32⟩
  | 10 => ⟨S64x128x1x1, .f32⟩
  | 11 => ⟨S64, .f32⟩
  | 12 => ⟨S64, .f32⟩
  | 13 => ⟨S10, .f32⟩
  | 14 => ⟨S10, .f32⟩
  | 15 => ⟨S4x8192x1, .f32⟩
  | 16 => ⟨S4x8192, .f32⟩
  | 17 => ⟨S4x8192x1, .f32⟩
  | 18 => ⟨S4x8192, .f32⟩
  | 19 => ⟨S4x8192x1, .f32⟩
  | 20 => ⟨S4x8192, .f32⟩
  | 21 => ⟨S4x8192, .f32⟩
  | 22 => ⟨S4x8192x1, .f32⟩
  | 23 => ⟨S1x1x10, .f32⟩
  | 24 => ⟨S4x8192x10, .f32⟩
  | 25 => ⟨S4x8192x10, .f32⟩
  | 26 => ⟨S4x8192x10, .i1⟩
  | 27 => ⟨S4x8192x10, .i32⟩
  | 28 => ⟨S_, .i32⟩
  | 29 => ⟨S4x8192, .i32⟩
  | 30 => ⟨S_, .i32⟩
  | 31 => ⟨S4x8192, .i32⟩
  | 32 => ⟨S4x8192, .i32⟩
  | 33 => ⟨S_, .i32⟩
  | 34 => ⟨S_, .i32⟩
  | 35 => ⟨S_, .i32⟩
  | 36 => ⟨S4x8192, .i32⟩
  | 37 => ⟨S4x8192, .i32⟩
  | 38 => ⟨S_, .i32⟩
  | 39 => ⟨S4x8192, .i32⟩
  | 40 => ⟨S4x8192, .i32⟩
  | 41 => ⟨S4x8192x1, .f32⟩
  | 42 => ⟨S1x1x10, .f32⟩
  | 43 => ⟨S4x8192x10, .f32⟩
  | 44 => ⟨S4x8192x10, .f32⟩
  | 45 => ⟨S4x8192x10, .i1⟩
  | 46 => ⟨S4x8192x10, .i32⟩
  | 47 => ⟨S_, .i32⟩
  | 48 => ⟨S4x8192, .i32⟩
  | 49 => ⟨S_, .i32⟩
  | 50 => ⟨S4x8192, .i32⟩
  | 51 => ⟨S4x8192, .i32⟩
  | 52 => ⟨S_, .i32⟩
  | 53 => ⟨S_, .i32⟩
  | 54 => ⟨S_, .i32⟩
  | 55 => ⟨S4x8192, .i32⟩
  | 56 => ⟨S4x8192, .i32⟩
  | 57 => ⟨S_, .i32⟩
  | 58 => ⟨S4x8192, .i32⟩
  | 59 => ⟨S4x8192, .i32⟩
  | 60 => ⟨S_, .i32⟩
  | 61 => ⟨S4x8192, .i32⟩
  | 62 => ⟨S4x8192, .i32⟩
  | 63 => ⟨S4x8192, .i32⟩
  | 64 => ⟨S4x8192x1, .i32⟩
  | 65 => ⟨S1x1x81, .i32⟩
  | 66 => ⟨S4x8192x81, .i32⟩
  | 67 => ⟨S4x8192x81, .i32⟩
  | 68 => ⟨S4x8192x81, .i1⟩
  | 69 => ⟨S4x8192x81, .i32⟩
  | 70 => ⟨S4x8192x1, .i1⟩
  | 71 => ⟨S4x8192x1, .i32⟩
  | 72 => ⟨S4x8192x81, .i32⟩
  | 73 => ⟨S4x8192x81, .i32⟩
  | 74 => ⟨S_, .i32⟩
  | 75 => ⟨S_, .i32⟩
  | 76 => ⟨S4x8192x81, .i32⟩
  | 77 => ⟨S4x8192x81, .i32⟩
  | 78 => ⟨S4x8192x1, .i32⟩
  | 79 => ⟨S_, .i32⟩
  | 80 => ⟨S4x8192x1, .i32⟩
  | 81 => ⟨S4x8192x1, .i1⟩
  | 82 => ⟨S_, .i32⟩
  | 83 => ⟨S4x8192x1, .i32⟩
  | 84 => ⟨S4x8192x1, .i32⟩
  | 85 => ⟨S4x8192x1, .i32⟩
  | 86 => ⟨S4x8192x1x1, .i32⟩
  | 87 => ⟨S1, .i32⟩
  | 88 => ⟨S_, .i32⟩
  | 89 => ⟨S4x8192x1x1, .i32⟩
  | 90 => ⟨S4x8192x1x1, .i1⟩
  | 91 => ⟨S1x1x1x1, .i32⟩
  | 92 => ⟨S4x8192x1x1, .i32⟩
  | 93 => ⟨S4x8192x1x1, .i1⟩
  | 94 => ⟨S4x8192x1x1, .i1⟩
  | 95 => ⟨S_, .i1⟩
  | 96 => ⟨S4x8192x1, .i1⟩
  | 97 => ⟨S4x8192x1, .i32⟩
  | 98 => ⟨S_, .i32⟩
  | 99 => ⟨S4x8192x1, .i32⟩
  | 100 => ⟨S4x8192x1, .i32⟩
  | 101 => ⟨S4x8192, .i32⟩
  | 102 => ⟨S_, .i32⟩
  | 103 => ⟨S4x8192, .i32⟩
  | 104 => ⟨S4x8192, .i1⟩
  | 105 => ⟨S4x8192, .i1⟩
  | 106 => ⟨S_, .i32⟩
  | 107 => ⟨S4x8192, .i32⟩
  | 108 => ⟨S4x8192, .i32⟩
  | 109 => ⟨S4x8192, .i32⟩
  | 110 => ⟨S_, .i32⟩
  | 111 => ⟨S_, .i32⟩
  | 112 => ⟨S4x8192, .i32⟩
  | 113 => ⟨S4x8192, .i32⟩
  | 114 => ⟨S4, .i32⟩
  | 115 => ⟨S4x1, .i32⟩
  | 116 => ⟨S4x8192x1, .i1⟩
  | 117 => ⟨S4x8192x1, .f32⟩
  | 118 => ⟨S4x8192x64, .f32⟩
  | 119 => ⟨S4x8192x64, .f32⟩
  | 120 => ⟨S_, .f32⟩
  | 121 => ⟨S4x811x64, .f32⟩
  | 122 => ⟨S_, .i32⟩
  | 123 => ⟨S4x1, .i32⟩
  | 124 => ⟨S4x1, .i1⟩
  | 125 => ⟨S_, .i32⟩
  | 126 => ⟨S4x1, .i32⟩
  | 127 => ⟨S4x1, .i32⟩
  | _ => ⟨S4x8192x64, .f32⟩

abbrev hbmTy0_1 (i : Nat) : BufTy := match i % 128 with
  | 0 => ⟨S4x1, .i32⟩
  | 1 => ⟨S_, .i32⟩
  | 2 => ⟨S4x8192, .i32⟩
  | 3 => ⟨S4x8192, .i1⟩
  | 4 => ⟨S_, .i32⟩
  | 5 => ⟨S4x8192, .i32⟩
  | 6 => ⟨S4x8192, .i32⟩
  | 7 => ⟨S4x8192, .i32⟩
  | 8 => ⟨S4x8192, .i32⟩
  | 9 => ⟨S4x8192x1, .i32⟩
  | 10 => ⟨S4x8192x1, .i32⟩
  | 11 => ⟨S4x8192x2, .i32⟩
  | 12 => ⟨S4x811x64, .f32⟩
  | 13 => ⟨S_, .i1⟩
  | 14 => ⟨S4x811, .i1⟩
  | 15 => ⟨S_, .i32⟩
  | 16 => ⟨S4x1, .i32⟩
  | 17 => ⟨S4x1, .i1⟩
  | 18 => ⟨S_, .i32⟩
  | 19 => ⟨S4x1, .i32⟩
  | 20 => ⟨S4x1, .i32⟩
  | 21 => ⟨S4x1, .i32⟩
  | 22 => ⟨S_, .i32⟩
  | 23 => ⟨S4x8192, .i32⟩
  | 24 => ⟨S4x8192, .i1⟩
  | 25 => ⟨S_, .i32⟩
  | 26 => ⟨S4x8192, .i32⟩
  | 27 => ⟨S4x8192, .i32⟩
  | 28 => ⟨S4x8192, .i32⟩
  | 29 => ⟨S4x8192, .i32⟩
  | 30 => ⟨S4x8192x1, .i32⟩
  | 31 => ⟨S4x8192x1, .i32⟩
  | 32 => ⟨S4x8192x2, .i32⟩
  | 33 => ⟨S4x811, .i1⟩
  | 34 => ⟨S4x810x64, .f32⟩
  | 35 => ⟨S4x9x9x10x64, .f32⟩
  | 36 => ⟨S4x810, .i1⟩
  | 37 => ⟨S4x9x9x10, .i1⟩
  | 38 => ⟨S4x9x9x10x1, .i1⟩
  | 39 => ⟨S4x9x9x10x1, .f32⟩
  | 40 => ⟨S4x9x9x10x64, .f32⟩
  | 41 => ⟨S4x9x9x10x64, .f32⟩
  | 42 => ⟨S4x9x9x640, .f32⟩
  | 43 => ⟨S4x9x9x32, .f32⟩
  | 44 => ⟨S1x1x1x32, .f32⟩
  | 45 => ⟨S4x9x9x32, .f32⟩
  | 46 => ⟨S4x9x9x32, .f32⟩
  | 47 => ⟨S_, .f32⟩
  | 48 => ⟨S4x9x9x32, .f32⟩
  | 49 => ⟨S4x9x9x32, .f32⟩
  | 50 => ⟨S4x9x9x32, .f32⟩
  | 51 => ⟨S1x1x1x32, .f32⟩
  | 52 => ⟨S4x9x9x32, .f32⟩
  | 53 => ⟨S4x9x9x32, .f32⟩
  | 54 => ⟨S4x32x9x9, .f32⟩
  | 55 => ⟨S4x1x32x9x9, .f32⟩
  | 56 => ⟨S192x32, .f32⟩
  | 57 => ⟨S1x192x32, .f32⟩
  | 58 => ⟨S1x192x4x9x9, .f32⟩
  | 59 => ⟨S4x1x192x9x9, .f32⟩
  | 60 => ⟨S4x192x9x9, .f32⟩
  | 61 => ⟨S_, .i32⟩
  | 62 => ⟨S_, .f32⟩
  | 63 => ⟨S4x192x13x13, .f32⟩
  | 64 => ⟨S_, .f32⟩
  | 65 => ⟨S4x192x9x9, .f32⟩
  | 66 => ⟨S4x192x9x9, .f32⟩
  | 67 => ⟨S192x1x1x1, .f32⟩
  | 68 => ⟨S192, .f32⟩
  | 69 => ⟨S1x192x1x1, .f32⟩
  | 70 => ⟨S4x192x9x9, .f32⟩
  | 71 => ⟨S4x192x9x9, .f32⟩
  | 72 => ⟨S4x192x9x9, .f32⟩
  | 73 => ⟨S4x192x9x9, .f32⟩
  | 74 => ⟨S192x1x1x1, .f32⟩
  | 75 => ⟨S192, .f32⟩
  | 76 => ⟨S1x192x1x1, .f32⟩
  | 77 => ⟨S4x192x9x9, .f32⟩
  | 78 => ⟨S4x192x9x9, .f32⟩
  | 79 => ⟨S4x192x9x9, .f32⟩
  | 80 => ⟨S4x192x9x9, .f32⟩
  | 81 => ⟨S192x1x1x1, .f32⟩
  | 82 => ⟨S192, .f32⟩
  | 83 => ⟨S1x192x1x1, .f32⟩
  | 84 => ⟨S4x192x9x9, .f32⟩
  | 85 => ⟨S4x192x9x9, .f32⟩
  | 86 => ⟨S4x192x9x9, .f32⟩
  | 87 => ⟨S4x192x9x9, .f32⟩
  | 88 => ⟨S192x1x1x1, .f32⟩
  | 89 => ⟨S192, .f32⟩
  | 90 => ⟨S1x192x1x1, .f32⟩
  | 91 => ⟨S4x192x9x9, .f32⟩
  | 92 => ⟨S4x192x9x9, .f32⟩
  | 93 => ⟨S4x192x9x9, .f32⟩
  | 94 => ⟨S4x192x9x9, .f32⟩
  | 95 => ⟨S192x1x1x1, .f32⟩
  | 96 => ⟨S192, .f32⟩
  | 97 => ⟨S1x192x1x1, .f32⟩
  | 98 => ⟨S4x192x9x9, .f32⟩
  | 99 => ⟨S4x192x9x9, .f32⟩
  | 100 => ⟨S4x192x9x9, .f32⟩
  | 101 => ⟨S4x192x9x9, .f32⟩
  | 102 => ⟨S192x1x1x1, .f32⟩
  | 103 => ⟨S192, .f32⟩
  | 104 => ⟨S1x192x1x1, .f32⟩
  | 105 => ⟨S4x192x9x9, .f32⟩
  | 106 => ⟨S4x192x9x9, .f32⟩
  | 107 => ⟨S4x192x9x9, .f32⟩
  | 108 => ⟨S4x192x9x9, .f32⟩
  | 109 => ⟨S192x1x1x1, .f32⟩
  | 110 => ⟨S192, .f32⟩
  | 111 => ⟨S1x192x1x1, .f32⟩
  | 112 => ⟨S4x192x9x9, .f32⟩
  | 113 => ⟨S4x192x9x9, .f32⟩
  | 114 => ⟨S4x192x9x9, .f32⟩
  | 115 => ⟨S4x192x9x9, .f32⟩
  | 116 => ⟨S192x1x1x1, .f32⟩
  | 117 => ⟨S192, .f32⟩
  | 118 => ⟨S1x192x1x1, .f32⟩
  | 119 => ⟨S4x192x9x9, .f32⟩
  | 120 => ⟨S4x192x9x9, .f32⟩
  | 121 => ⟨S4x192x9x9, .f32⟩
  | 122 => ⟨S4x192x9x9, .f32⟩
  | 123 => ⟨S192x1x1x1, .f32⟩
  | 124 => ⟨S192, .f32⟩
  | 125 => ⟨S1x192x1x1, .f32⟩
  | 126 => ⟨S4x192x9x9, .f32⟩
  | 127 => ⟨S4x192x9x9, .f32⟩
  | _ => ⟨S4x8192x64, .f32⟩

abbrev hbmTy0_2 (i : Nat) : BufTy := match i % 128 with
  | 0 => ⟨S4x192x9x9, .f32⟩
  | 1 => ⟨S4x192x9x9, .f32⟩
  | 2 => ⟨S192x1x1x1, .f32⟩
  | 3 => ⟨S192, .f32⟩
  | 4 => ⟨S1x192x1x1, .f32⟩
  | 5 => ⟨S4x192x9x9, .f32⟩
  | 6 => ⟨S4x192x9x9, .f32⟩
  | 7 => ⟨S4x192x9x9, .f32⟩
  | 8 => ⟨S4x192x9x9, .f32⟩
  | 9 => ⟨S192x1x1x1, .f32⟩
  | 10 => ⟨S192, .f32⟩
  | 11 => ⟨S1x192x1x1, .f32⟩
  | 12 => ⟨S4x192x9x9, .f32⟩
  | 13 => ⟨S4x192x9x9, .f32⟩
  | 14 => ⟨S4x192x9x9, .f32⟩
  | 15 => ⟨S4x192x9x9, .f32⟩
  | 16 => ⟨S192x1x1x1, .f32⟩
  | 17 => ⟨S192, .f32⟩
  | 18 => ⟨S1x192x1x1, .f32⟩
  | 19 => ⟨S4x192x9x9, .f32⟩
  | 20 => ⟨S4x192x9x9, .f32⟩
  | 21 => ⟨S4x192x9x9, .f32⟩
  | 22 => ⟨S4x192x9x9, .f32⟩
  | 23 => ⟨S192x1x1x1, .f32⟩
  | 24 => ⟨S192, .f32⟩
  | 25 => ⟨S1x192x1x1, .f32⟩
  | 26 => ⟨S4x192x9x9, .f32⟩
  | 27 => ⟨S4x192x9x9, .f32⟩
  | 28 => ⟨S4x192x9x9, .f32⟩
  | 29 => ⟨S4x192x9x9, .f32⟩
  | 30 => ⟨S192x1x1x1, .f32⟩
  | 31 => ⟨S192, .f32⟩
  | 32 => ⟨S1x192x1x1, .f32⟩
  | 33 => ⟨S4x192x9x9, .f32⟩
  | 34 => ⟨S4x192x9x9, .f32⟩
  | 35 => ⟨S4x192x9x9, .f32⟩
  | 36 => ⟨S4x192x9x9, .f32⟩
  | 37 => ⟨S192x1x1x1, .f32⟩
  | 38 => ⟨S192, .f32⟩
  | 39 => ⟨S1x192x1x1, .f32⟩
  | 40 => ⟨S4x192x9x9, .f32⟩
  | 41 => ⟨S4x192x9x9, .f32⟩
  | 42 => ⟨S4x192x9x9, .f32⟩
  | 43 => ⟨S4x192x9x9, .f32⟩
  | 44 => ⟨S192x1x1x1, .f32⟩
  | 45 => ⟨S192, .f32⟩
  | 46 => ⟨S1x192x1x1, .f32⟩
  | 47 => ⟨S4x192x9x9, .f32⟩
  | 48 => ⟨S4x192x9x9, .f32⟩
  | 49 => ⟨S4x192x9x9, .f32⟩
  | 50 => ⟨S4x192x9x9, .f32⟩
  | 51 => ⟨S192x1x1x1, .f32⟩
  | 52 => ⟨S192, .f32⟩
  | 53 => ⟨S1x192x1x1, .f32⟩
  | 54 => ⟨S4x192x9x9, .f32⟩
  | 55 => ⟨S4x192x9x9, .f32⟩
  | 56 => ⟨S4x192x9x9, .f32⟩
  | 57 => ⟨S4x192x9x9, .f32⟩
  | 58 => ⟨S192x1x1x1, .f32⟩
  | 59 => ⟨S192, .f32⟩
  | 60 => ⟨S1x192x1x1, .f32⟩
  | 61 => ⟨S4x192x9x9, .f32⟩
  | 62 => ⟨S4x192x9x9, .f32⟩
  | 63 => ⟨S4x192x9x9, .f32⟩
  | 64 => ⟨S4x192x9x9, .f32⟩
  | 65 => ⟨S192x1x1x1, .f32⟩
  | 66 => ⟨S192, .f32⟩
  | 67 => ⟨S1x192x1x1, .f32⟩
  | 68 => ⟨S4x192x9x9, .f32⟩
  | 69 => ⟨S4x192x9x9, .f32⟩
  | 70 => ⟨S4x192x9x9, .f32⟩
  | 71 => ⟨S4x192x9x9, .f32⟩
  | 72 => ⟨S192x1x1x1, .f32⟩
  | 73 => ⟨S192, .f32⟩
  | 74 => ⟨S1x192x1x1, .f32⟩
  | 75 => ⟨S4x192x9x9, .f32⟩
  | 76 => ⟨S4x192x9x9, .f32⟩
  | 77 => ⟨S4x192x9x9, .f32⟩
  | 78 => ⟨S4x192x9x9, .f32⟩
  | 79 => ⟨S192x1x1x1, .f32⟩
  | 80 => ⟨S192, .f32⟩
  | 81 => ⟨S1x192x1x1, .f32⟩
  | 82 => ⟨S4x192x9x9, .f32⟩
  | 83 => ⟨S4x192x9x9, .f32⟩
  | 84 => ⟨S4x192x9x9, .f32⟩
  | 85 => ⟨S4x192x9x9, .f32⟩
  | 86 => ⟨S192x1x1x1, .f32⟩
  | 87 => ⟨S192, .f32⟩
  | 88 => ⟨S1x192x1x1, .f32⟩
  | 89 => ⟨S4x192x9x9, .f32⟩
  | 90 => ⟨S4x192x9x9, .f32⟩
  | 91 => ⟨S4x192x9x9, .f32⟩
  | 92 => ⟨S4x192x9x9, .f32⟩
  | 93 => ⟨S192x1x1x1, .f32⟩
  | 94 => ⟨S192, .f32⟩
  | 95 => ⟨S1x192x1x1, .f32⟩
  | 96 => ⟨S4x192x9x9, .f32⟩
  | 97 => ⟨S4x192x9x9, .f32⟩
  | 98 => ⟨S4x192x9x9, .f32⟩
  | 99 => ⟨S4x192x9x9, .f32⟩
  | 100 => ⟨S192x1x1x1, .f32⟩
  | 101 => ⟨S192, .f32⟩
  | 102 => ⟨S1x192x1x1, .f32⟩
  | 103 => ⟨S4x192x9x9, .f32⟩
  | 104 => ⟨S4x192x9x9, .f32⟩
  | 105 => ⟨S4x192x9x9, .f32⟩
  | 106 => ⟨S4x192x9x9, .f32⟩
  | 107 => ⟨S192x1x1x1, .f32⟩
  | 108 => ⟨S192, .f32⟩
  | 109 => ⟨S1x192x1x1, .f32⟩
  | 110 => ⟨S4x192x9x9, .f32⟩
  | 111 => ⟨S4x192x9x9, .f32⟩
  | 112 => ⟨S4x192x9x9, .f32⟩
  | 113 => ⟨S4x24x8x9x9, .f32⟩
  | 114 => ⟨S192x8, .f32⟩
  | 115 => ⟨S24x8x8, .f32⟩
  | 116 => ⟨S24x8x4x9x9, .f32⟩
  | 117 => ⟨S4x24x8x9x9, .f32⟩
  | 118 => ⟨S4x192x9x9, .f32⟩
  | 119 => ⟨S4x384x9x9, .f32⟩
  | 120 => ⟨S4x16x24x81, .f32⟩
  | 121 => ⟨S4x16x8x81, .f32⟩
  | 122 => ⟨S_, .f32⟩
  | 123 => ⟨S4x16x8x81, .f32⟩
  | 124 => ⟨S4x16x8x81, .f32⟩
  | 125 => ⟨S4x16x8x81, .f32⟩
  | 126 => ⟨S_, .f32⟩
  | 127 => ⟨S4x16x8x81, .f32⟩
  | _ => ⟨S4x8192x64, .f32⟩

abbrev hbmTy0_3 (i : Nat) : BufTy := match i % 128 with
  | 0 => ⟨S4x16x8x81, .f32⟩
  | 1 => ⟨S4x16x8x81, .f32⟩
  | 2 => ⟨S4x16x81x8, .f32⟩
  | 3 => ⟨S4x16x1x81, .f32⟩
  | 4 => ⟨S_, .f32⟩
  | 5 => ⟨S4x16x1x81, .f32⟩
  | 6 => ⟨S4x16x9x81, .f32⟩
  | 7 => ⟨S4x16x9x8, .f32⟩
  | 8 => ⟨S4x16x9x81, .f32⟩
  | 9 => ⟨S4x16x8x81, .f32⟩
  | 10 => ⟨S4x16x1x81, .f32⟩
  | 11 => ⟨S_, .f32⟩
  | 12 => ⟨S4x16x1x81, .f32⟩
  | 13 => ⟨S4x16x1x81, .f32⟩
  | 14 => ⟨S4x16x8x81, .f32⟩
  | 15 => ⟨S4x16x8x81, .f32⟩
  | 16 => ⟨S4x128x9x9, .f32⟩
  | 17 => ⟨S4x1x128x9x9, .f32⟩
  | 18 => ⟨S64x128, .f32⟩
  | 19 => ⟨S1x64x128, .f32⟩
  | 20 => ⟨S1x64x4x9x9, .f32⟩
  | 21 => ⟨S4x1x64x9x9, .f32⟩
  | 22 => ⟨S4x64x9x9, .f32⟩
  | 23 => ⟨S_, .f32⟩
  | 24 => ⟨S4x64x9x9, .f32⟩
  | 25 => ⟨S4x64x9x9, .f32⟩
  | 26 => ⟨S1x64x1x1, .f32⟩
  | 27 => ⟨S4x64x9x9, .f32⟩
  | 28 => ⟨S4x64x9x9, .f32⟩
  | 29 => ⟨S1x64x1x1, .f32⟩
  | 30 => ⟨S4x64x9x9, .f32⟩
  | 31 => ⟨S4x64x9x9, .f32⟩
  | 32 => ⟨S4x64x81, .f32⟩
  | 33 => ⟨S4x1x8192, .i32⟩
  | 34 => ⟨S_, .i32⟩
  | 35 => ⟨S4x1x8192, .i32⟩
  | 36 => ⟨S4x1x8192, .i1⟩
  | 37 => ⟨S_, .i32⟩
  | 38 => ⟨S4x1x8192, .i32⟩
  | 39 => ⟨S4x1x8192, .i32⟩
  | 40 => ⟨S4x1x8192, .i32⟩
  | 41 => ⟨S4x8192x1, .i32⟩
  | 42 => ⟨S1, .i32⟩
  | 43 => ⟨S_, .i32⟩
  | 44 => ⟨S4x8192x1, .i32⟩
  | 45 => ⟨S4x8192x1, .i1⟩
  | 46 => ⟨S1x1x1, .i32⟩
  | 47 => ⟨S4x8192x1, .i32⟩
  | 48 => ⟨S4x8192x1, .i1⟩
  | 49 => ⟨S4x8192x1, .i1⟩
  | 50 => ⟨S_, .i1⟩
  | 51 => ⟨S4x8192, .i1⟩
  | 52 => ⟨S4x64x8192, .f32⟩
  | 53 => ⟨S4x64x8192, .i1⟩
  | 54 => ⟨S_, .f32⟩
  | 55 => ⟨S4x64x8192, .f32⟩
  | 56 => ⟨S4x64x8192, .f32⟩
  | 57 => ⟨S4x8192x64, .f32⟩
  | 58 => ⟨S4x8192x1, .i1⟩
  | 59 => ⟨S4x8192x1, .f32⟩
  | 60 => ⟨S4x8192x64, .f32⟩
  | 61 => ⟨S4x8192x64, .f32⟩
  | _ => ⟨S4x8192x64, .f32⟩

abbrev hbmTy (i : Nat) : BufTy := match i / 128 with
  | 0 => hbmTy0_0 i
  | 1 => hbmTy0_1 i
  | 2 => hbmTy0_2 i
  | 3 => hbmTy0_3 i
  | _ => ⟨S4x8192x64, .f32⟩

abbrev bufTy : (tb : Table) → Fin (tcTables nBuf tb) → BufTy
  | .hbm, ⟨i, _⟩ => hbmTy i
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_c_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_c_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v26 : Ref sig .tc := ⟨.hbm, 59, rfl⟩
abbrev main_c_8 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_call3_call0_c : Ref sig .tc := ⟨.hbm, 74, rfl⟩
abbrev main_call3_call0_v0 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_c_4 : Ref sig .tc := ⟨.hbm, 98, rfl⟩
abbrev main_call4_v14 : Ref sig .tc := ⟨.hbm, 99, rfl⟩
abbrev main_v38 : Ref sig .tc := ⟨.hbm, 100, rfl⟩
abbrev main_v39 : Ref sig .tc := ⟨.hbm, 101, rfl⟩
abbrev main_c_9 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_c_10 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_c_11 : Ref sig .tc := ⟨.hbm, 110, rfl⟩
abbrev main_call5_v0 : Ref sig .tc := ⟨.hbm, 111, rfl⟩
abbrev main_call5_v1 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_cst_12 : Ref sig .tc := ⟨.hbm, 120, rfl⟩
abbrev main_v53 : Ref sig .tc := ⟨.hbm, 121, rfl⟩
abbrev main_c_13 : Ref sig .tc := ⟨.hbm, 122, rfl⟩
abbrev main_v54 : Ref sig .tc := ⟨.hbm, 123, rfl⟩
abbrev main_v55 : Ref sig .tc := ⟨.hbm, 124, rfl⟩
abbrev main_c_14 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_c_15 : Ref sig .tc := ⟨.hbm, 129, rfl⟩
abbrev main_v59 : Ref sig .tc := ⟨.hbm, 130, rfl⟩
abbrev main_v60 : Ref sig .tc := ⟨.hbm, 131, rfl⟩
abbrev main_c_16 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_c_17 : Ref sig .tc := ⟨.hbm, 141, rfl⟩
abbrev main_v69 : Ref sig .tc := ⟨.hbm, 142, rfl⟩
abbrev main_c_18 : Ref sig .tc := ⟨.hbm, 143, rfl⟩
abbrev main_v70 : Ref sig .tc := ⟨.hbm, 144, rfl⟩
abbrev main_v71 : Ref sig .tc := ⟨.hbm, 145, rfl⟩
abbrev main_c_19 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_c_20 : Ref sig .tc := ⟨.hbm, 150, rfl⟩
abbrev main_v75 : Ref sig .tc := ⟨.hbm, 151, rfl⟩
abbrev main_v76 : Ref sig .tc := ⟨.hbm, 152, rfl⟩
abbrev main_c_21 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_call6_cst : Ref sig .tc := ⟨.hbm, 175, rfl⟩
abbrev main_call6_v0 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_c_22 : Ref sig .tc := ⟨.hbm, 189, rfl⟩
abbrev main_call7_v0 : Ref sig .tc := ⟨.hbm, 190, rfl⟩
abbrev main_v110 : Ref sig .tc := ⟨.hbm, 191, rfl⟩
abbrev main_cst_23 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_call8_cst : Ref sig .tc := ⟨.hbm, 378, rfl⟩
abbrev main_call8_v0 : Ref sig .tc := ⟨.hbm, 379, rfl⟩
abbrev main_v296 : Ref sig .tc := ⟨.hbm, 380, rfl⟩
abbrev main_v297 : Ref sig .tc := ⟨.hbm, 381, rfl⟩
abbrev main_call9_cst : Ref sig .tc := ⟨.hbm, 382, rfl⟩
abbrev main_call9_v0 : Ref sig .tc := ⟨.hbm, 383, rfl⟩
abbrev main_v298 : Ref sig .tc := ⟨.hbm, 384, rfl⟩
abbrev main_v299 : Ref sig .tc := ⟨.hbm, 385, rfl⟩
abbrev main_v300 : Ref sig .tc := ⟨.hbm, 386, rfl⟩
abbrev main_v301 : Ref sig .tc := ⟨.hbm, 387, rfl⟩
abbrev main_cst_24 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_cst_25 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_v314 : Ref sig .tc := ⟨.hbm, 402, rfl⟩
abbrev main_v315 : Ref sig .tc := ⟨.hbm, 403, rfl⟩
abbrev main_v316 : Ref sig .tc := ⟨.hbm, 404, rfl⟩
abbrev main_v317 : Ref sig .tc := ⟨.hbm, 405, rfl⟩
abbrev main_v318 : Ref sig .tc := ⟨.hbm, 406, rfl⟩
abbrev main_cst_26 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_v323 : Ref sig .tc := ⟨.hbm, 412, rfl⟩
abbrev main_v324 : Ref sig .tc := ⟨.hbm, 413, rfl⟩
abbrev main_v325 : Ref sig .tc := ⟨.hbm, 414, rfl⟩
abbrev main_v326 : Ref sig .tc := ⟨.hbm, 415, rfl⟩
abbrev main_v327 : Ref sig .tc := ⟨.hbm, 416, rfl⟩
abbrev main_v328 : Ref sig .tc := ⟨.hbm, 417, rfl⟩
abbrev main_call10_c : Ref sig .tc := ⟨.hbm, 418, rfl⟩
abbrev main_call10_v0 : Ref sig .tc := ⟨.hbm, 419, rfl⟩
abbrev main_call10_v1 : Ref sig .tc := ⟨.hbm, 420, rfl⟩
abbrev main_call10_c_0 : Ref sig .tc := ⟨.hbm, 421, rfl⟩
abbrev main_call10_v2 : Ref sig .tc := ⟨.hbm, 422, rfl⟩
abbrev main_call10_v3 : Ref sig .tc := ⟨.hbm, 423, rfl⟩
abbrev main_call10_v4 : Ref sig .tc := ⟨.hbm, 424, rfl⟩
abbrev main_call10_v5 : Ref sig .tc := ⟨.hbm, 425, rfl⟩
abbrev main_call10_c_1 : Ref sig .tc := ⟨.hbm, 426, rfl⟩
abbrev main_call10_c_2 : Ref sig .tc := ⟨.hbm, 427, rfl⟩
abbrev main_call10_v6 : Ref sig .tc := ⟨.hbm, 428, rfl⟩
abbrev main_call10_v7 : Ref sig .tc := ⟨.hbm, 429, rfl⟩
abbrev main_call10_v8 : Ref sig .tc := ⟨.hbm, 430, rfl⟩
abbrev main_call10_v9 : Ref sig .tc := ⟨.hbm, 431, rfl⟩
abbrev main_call10_v10 : Ref sig .tc := ⟨.hbm, 432, rfl⟩
abbrev main_call10_v11 : Ref sig .tc := ⟨.hbm, 433, rfl⟩
abbrev main_call10_c_3 : Ref sig .tc := ⟨.hbm, 434, rfl⟩
abbrev main_call10_v12 : Ref sig .tc := ⟨.hbm, 435, rfl⟩
abbrev main_call10_v13 : Ref sig .tc := ⟨.hbm, 436, rfl⟩
abbrev main_call10_v14 : Ref sig .tc := ⟨.hbm, 437, rfl⟩
abbrev main_call10_cst : Ref sig .tc := ⟨.hbm, 438, rfl⟩
abbrev main_call10_v15 : Ref sig .tc := ⟨.hbm, 439, rfl⟩
abbrev main_v329 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_v333 : Ref sig .tc := ⟨.hbm, 444, rfl⟩
abbrev main_v334 : Ref sig .tc := ⟨.hbm, 445, rfl⟩

abbrev nD : Nat := 1
abbrev τ : Topo := Topo.v7x

variable {F : FTy → Type} [FloatOps F]
-- ==== Proof.Spec.lean ====
/- The mathematics both programs compute, on extended reals: a binning of particles with a bounded number of slots per
   bin, a dense part on the 81 bins, and a gather back to the particles. Written once, over plain functions. -/
module

public import Idealize.ShloMosaic.Lib.Pointwise

@[expose] public section

noncomputable section

namespace Cert.Spec

open Idealize.ShloMosaic

/-! ## Binning -/

/-- The bin of a coordinate: the edges it has reached, less one, held between 0 and 8. -/
def edgeBin (edges : Fin 10 → EReal) (v : EReal) : ℕ :=
  min 8 ((Finset.univ.filter fun i => edges i ≤ v).card - 1)

/-- The bin of the 81 that two coordinates fall in. -/
def binId (etaEdges phiEdges : Fin 10 → EReal) (e p : EReal) : ℕ := edgeBin etaEdges e * 9 + edgeBin phiEdges p

theorem edgeBin_le (edges : Fin 10 → EReal) (v : EReal) : edgeBin edges v ≤ 8 := by
  unfold edgeBin; omega

theorem binId_lt (etaEdges phiEdges : Fin 10 → EReal) (e p : EReal) : binId etaEdges phiEdges e p < 81 := by
  have h1 := edgeBin_le etaEdges e
  have h2 := edgeBin_le phiEdges p
  unfold binId; omega

section Binning

variable (bin : Fin 8192 → ℕ) (msk : Fin 8192 → Bool)

/-- How many earlier unmasked particles lie in the particle's bin. -/
def rank (n : Fin 8192) : ℕ := (Finset.univ.filter fun k => k < n ∧ msk k = true ∧ bin k = bin n).card

/-- A particle is kept when it is unmasked and among the first ten of its bin. -/
def keep (n : Fin 8192) : Bool := msk n && decide (rank bin msk n < 10)

/-- The feature in slot `r` of bin `i`: that of the kept particle of that bin and rank, zero when there is none. -/
def slots (x : Fin 8192 → Fin 64 → EReal) (i r : ℕ) (f : Fin 64) : EReal :=
  ∑ n, if keep bin msk n = true ∧ bin n = i ∧ rank bin msk n = r then x n f else 0

end Binning

/-! ## The dense part, one layer after the other on the 81 bins -/

/-- The larger of a value and zero. -/
def relu (a : EReal) : EReal := max a 0

/-- The first layer, over a bin's ten slots of 64 features. -/
def hid1 (w : Fin 640 → Fin 32 → EReal) (b : Fin 32 → EReal) (a : Fin 81 → Fin 640 → EReal) (p : Fin 81) (o : Fin 32) :
    EReal := relu (∑ k, a p k * w k o + b o)

/-- The second layer. -/
def hid2 (w : Fin 32 → Fin 32 → EReal) (b : Fin 32 → EReal) (a : Fin 81 → Fin 32 → EReal) (p : Fin 81) (o : Fin 32) :
    EReal := ∑ k, a p k * w k o + b o

/-- The queries, keys and values. -/
def qkv (w : Fin 192 → Fin 32 → EReal) (a : Fin 81 → Fin 32 → EReal) (p : Fin 81) (c : Fin 192) : EReal :=
  ∑ k, a p k * w c k

/-- The value a 5 by 5 window's tap `t` around cell `p` of the 9 by 9 grid meets, zero outside the grid. -/
def tap (q : Fin 81 → Fin 192 → EReal) (p : Fin 81) (t : Fin 25) (c : Fin 192) : EReal :=
  if h : 2 ≤ p.val / 9 + t.val / 5 ∧ p.val / 9 + t.val / 5 < 11 ∧ 2 ≤ p.val % 9 + t.val % 5 ∧ p.val % 9 + t.val % 5 < 11
  then q ⟨9 * (p.val / 9 + t.val / 5 - 2) + (p.val % 9 + t.val % 5 - 2), by omega⟩ c else 0

/-- The depthwise convolution. -/
def dw (w : Fin 192 → Fin 25 → EReal) (q : Fin 81 → Fin 192 → EReal) (p : Fin 81) (c : Fin 192) : EReal :=
  ∑ t, tap q p t c * w c t

/-- The pointwise convolution in 24 groups of 8. -/
def pw (w : Fin 192 → Fin 8 → EReal) (d : Fin 81 → Fin 192 → EReal) (p : Fin 81) (c : Fin 192) : EReal :=
  ∑ j : Fin 8, d p ⟨8 * (c.val / 8) + j.val, by omega⟩ * w c j

/-- The two scales side by side. -/
def multi (q g : Fin 81 → Fin 192 → EReal) (p : Fin 81) (c : Fin 384) : EReal :=
  if h : c.val < 192 then q p ⟨c.val, h⟩ else g p ⟨c.val - 192, by omega⟩

/-- A head's keys against its values, and against ones in the last column. -/
def keyVal (m : Fin 81 → Fin 384 → EReal) (h : Fin 16) (d : Fin 8) (e : Fin 9) : EReal :=
  ∑ p, relu (m p ⟨24 * h.val + 8 + d.val, by omega⟩) *
    (if g : e.val < 8 then m p ⟨24 * h.val + 16 + e.val, by omega⟩ else 1)

/-- A head's queries against the same. -/
def headOut (m : Fin 81 → Fin 384 → EReal) (h : Fin 16) (p : Fin 81) (e : Fin 9) : EReal :=
  ∑ d : Fin 8, relu (m p ⟨24 * h.val + d.val, by omega⟩) * keyVal m h d e

/-- The attention: each head's eight values over its last column, offset by `eps`. -/
def att (eps : EReal) (m : Fin 81 → Fin 384 → EReal) (p : Fin 81) (c : Fin 128) : EReal :=
  Ideal.div (headOut m ⟨c.val / 8, by omega⟩ p ⟨c.val % 8, by omega⟩)
    (headOut m ⟨c.val / 8, by omega⟩ p 8 + eps)

/-- The projection. -/
def proj (w : Fin 64 → Fin 128 → EReal) (a : Fin 81 → Fin 128 → EReal) (p : Fin 81) (o : Fin 64) : EReal :=
  ∑ c, a p c * w o c

/-- The normalisation, with the running scale `s` divided out of the gain. -/
def norm (s : EReal) (γ β : Fin 64 → EReal) (y : Fin 81 → Fin 64 → EReal) (p : Fin 81) (o : Fin 64) : EReal :=
  y p o * Ideal.div (γ o) s + β o

/-- The weights of the dense part. -/
structure Weights where
  w1 : Fin 640 → Fin 32 → EReal
  b1 : Fin 32 → EReal
  w2 : Fin 32 → Fin 32 → EReal
  b2 : Fin 32 → EReal
  wqkv : Fin 192 → Fin 32 → EReal
  wdw : Fin 192 → Fin 25 → EReal
  wpw : Fin 192 → Fin 8 → EReal
  wproj : Fin 64 → Fin 128 → EReal
  γ : Fin 64 → EReal
  β : Fin 64 → EReal
  eps : EReal
  s : EReal

/-- The queries, keys and values of a bin's slots. -/
def denseQkv (W : Weights) (a : Fin 81 → Fin 640 → EReal) : Fin 81 → Fin 192 → EReal :=
  qkv W.wqkv (hid2 W.w2 W.b2 (hid1 W.w1 W.b1 a))

/-- Both scales from the first. -/
def denseMulti (W : Weights) (q : Fin 81 → Fin 192 → EReal) : Fin 81 → Fin 384 → EReal :=
  multi q (pw W.wpw (dw W.wdw q))

/-- The result of a bin from both scales. -/
def denseOut (W : Weights) (m : Fin 81 → Fin 384 → EReal) : Fin 81 → Fin 64 → EReal :=
  norm W.s W.γ W.β (proj W.wproj (att W.eps m))

/-- The dense part: from the bins' slots to a row of 64 for each bin. -/
def dense (W : Weights) (a : Fin 81 → Fin 640 → EReal) : Fin 81 → Fin 64 → EReal :=
  denseOut W (denseMulti W (denseQkv W a))

/-- The whole layer: a kept particle takes its bin's row, the others zero. -/
def out (W : Weights) (bin : Fin 8192 → ℕ) (hb : ∀ n, bin n < 81) (msk : Fin 8192 → Bool)
    (x : Fin 8192 → Fin 64 → EReal) (n : Fin 8192) (o : Fin 64) : EReal :=
  if keep bin msk n = true then
    dense W (fun p k => slots bin msk x p.val (k.val / 64) ⟨k.val % 64, by omega⟩) ⟨bin n, hb n⟩ o
  else 0

end Cert.Spec

end
-- ==== Proof.Consts.lean ====
/- The float constants of both programs that the proof needs as real numbers. -/
module

public import proofs.«01_k».proof.Proof.Spec

@[expose] public section

noncomputable section

namespace Cert.Consts

open Idealize.ShloMosaic

/-- Minus one. -/
theorem negOne : Ideal.ofBits .f32 0xBF800000#32 = ((-1 : ℝ) : EReal) := by
  simp [Ideal.ofBits, Ideal.ieee, -EReal.coe_mul, -EReal.coe_neg]; norm_num

/-- One, as a real number. -/
theorem one : Ideal.ofBits .f32 0x3F800000#32 = ((1 : ℝ) : EReal) := by
  simp [Ideal.ofBits, Ideal.ieee, -EReal.coe_mul, -EReal.coe_neg]; norm_num

/-- Eight. -/
theorem eight : Ideal.ofBits .f32 0x41000000#32 = ((8 : ℝ) : EReal) := by
  simp [Ideal.ofBits, Ideal.ieee, -EReal.coe_mul, -EReal.coe_neg]; norm_num

/-- Nine. -/
theorem nine : Ideal.ofBits .f32 0x41100000#32 = ((9 : ℝ) : EReal) := by
  simp [Ideal.ofBits, Ideal.ieee, -EReal.coe_mul, -EReal.coe_neg]; norm_num

/-- Ten. -/
theorem ten : Ideal.ofBits .f32 0x41200000#32 = ((10 : ℝ) : EReal) := by
  simp [Ideal.ofBits, Ideal.ieee, -EReal.coe_mul, -EReal.coe_neg]; norm_num

/-- Eighty-one. -/
theorem eightyOne : Ideal.ofBits .f32 0x42A20000#32 = ((81 : ℝ) : EReal) := by
  simp [Ideal.ofBits, Ideal.ieee, -EReal.coe_mul, -EReal.coe_neg]; norm_num

/-- The normalisation's running scale, the square root of one and a hundred-thousandth rounded to the format. -/
theorem scale : Ideal.ofBits .f32 0x3F80002A#32 = ((8388650 / 8388608 : ℝ) : EReal) := by
  simp [Ideal.ofBits, Ideal.ieee, -EReal.coe_mul, -EReal.coe_neg]; norm_num

/-- Dividing by the scale before or after a gain is applied is the same. -/
theorem div_scale (y g : EReal) : Ideal.div y (Ideal.ofBits .f32 0x3F80002A#32) * g
    = y * Ideal.div g (Ideal.ofBits .f32 0x3F80002A#32) := by
  rw [scale, Ideal.div_coe (by norm_num), Ideal.div_coe (by norm_num), mul_assoc, mul_comm g]

end Cert.Consts

end
-- ==== Proof.Words.lean ====
/- Small integers and truth values as extended reals. -/
module

public import proofs.«01_k».proof.Proof.Consts

@[expose] public section

noncomputable section

namespace Cert.Words

open Idealize.ShloMosaic

/-- A truth value widened and converted is one or zero. -/
theorem sitofp_bool (P : Prop) [Decidable P] :
    FloatOps.sitofp (F := Ideal) FTy.f32 (BitVec.setWidth 32 (BitVec.ofBool (decide P))) = if P then (1 : EReal) else 0 := by
  by_cases h : P
  · rw [if_pos h, decide_eq_true h]
    show (((BitVec.setWidth 32 (BitVec.ofBool true)).toInt : ℝ) : EReal) = 1
    have e : (BitVec.setWidth 32 (BitVec.ofBool true)).toInt = 1 := by decide
    rw [e]; simp
  · rw [if_neg h, decide_eq_false h]
    show (((BitVec.setWidth 32 (BitVec.ofBool false)).toInt : ℝ) : EReal) = 0
    have e : (BitVec.setWidth 32 (BitVec.ofBool false)).toInt = 0 := by decide
    rw [e]; simp

/-- A small natural number converted is itself. -/
theorem sitofp_nat (n : ℕ) (h : n < 2147483648) :
    FloatOps.sitofp (F := Ideal) FTy.f32 (BitVec.ofNat 32 n) = ((n : ℝ) : EReal) := by
  show (((BitVec.ofNat 32 n).toInt : ℝ) : EReal) = _
  have e : (BitVec.ofNat 32 n).toInt = (n : ℤ) := by
    rw [BitVec.toInt_ofNat', Int.bmod_def]
    omega
  rw [e]; simp

end Cert.Words

end
-- ==== Proof.TableKit.lean ====
/- Tables of words written as trees of matches on an index's base-128 digits, and what such a tree reads. -/
module

public import proofs.«01_k».proof.Proof.Words
public import Idealize.ShloMosaic.Lib.Pointwise

@[expose] public section

set_option maxRecDepth 100000

namespace Cert.Table

/-- A table of 128 words read at an index's last base-128 digit. -/
abbrev leaf (w : ℕ → BitVec 32) (i : ℕ) : BitVec 32 := match i % 128 with
  | 0 => w 0
  | 1 => w 1
  | 2 => w 2
  | 3 => w 3
  | 4 => w 4
  | 5 => w 5
  | 6 => w 6
  | 7 => w 7
  | 8 => w 8
  | 9 => w 9
  | 10 => w 10
  | 11 => w 11
  | 12 => w 12
  | 13 => w 13
  | 14 => w 14
  | 15 => w 15
  | 16 => w 16
  | 17 => w 17
  | 18 => w 18
  | 19 => w 19
  | 20 => w 20
  | 21 => w 21
  | 22 => w 22
  | 23 => w 23
  | 24 => w 24
  | 25 => w 25
  | 26 => w 26
  | 27 => w 27
  | 28 => w 28
  | 29 => w 29
  | 30 => w 30
  | 31 => w 31
  | 32 => w 32
  | 33 => w 33
  | 34 => w 34
  | 35 => w 35
  | 36 => w 36
  | 37 => w 37
  | 38 => w 38
  | 39 => w 39
  | 40 => w 40
  | 41 => w 41
  | 42 => w 42
  | 43 => w 43
  | 44 => w 44
  | 45 => w 45
  | 46 => w 46
  | 47 => w 47
  | 48 => w 48
  | 49 => w 49
  | 50 => w 50
  | 51 => w 51
  | 52 => w 52
  | 53 => w 53
  | 54 => w 54
  | 55 => w 55
  | 56 => w 56
  | 57 => w 57
  | 58 => w 58
  | 59 => w 59
  | 60 => w 60
  | 61 => w 61
  | 62 => w 62
  | 63 => w 63
  | 64 => w 64
  | 65 => w 65
  | 66 => w 66
  | 67 => w 67
  | 68 => w 68
  | 69 => w 69
  | 70 => w 70
  | 71 => w 71
  | 72 => w 72
  | 73 => w 73
  | 74 => w 74
  | 75 => w 75
  | 76 => w 76
  | 77 => w 77
  | 78 => w 78
  | 79 => w 79
  | 80 => w 80
  | 81 => w 81
  | 82 => w 82
  | 83 => w 83
  | 84 => w 84
  | 85 => w 85
  | 86 => w 86
  | 87 => w 87
  | 88 => w 88
  | 89 => w 89
  | 90 => w 90
  | 91 => w 91
  | 92 => w 92
  | 93 => w 93
  | 94 => w 94
  | 95 => w 95
  | 96 => w 96
  | 97 => w 97
  | 98 => w 98
  | 99 => w 99
  | 100 => w 100
  | 101 => w 101
  | 102 => w 102
  | 103 => w 103
  | 104 => w 104
  | 105 => w 105
  | 106 => w 106
  | 107 => w 107
  | 108 => w 108
  | 109 => w 109
  | 110 => w 110
  | 111 => w 111
  | 112 => w 112
  | 113 => w 113
  | 114 => w 114
  | 115 => w 115
  | 116 => w 116
  | 117 => w 117
  | 118 => w 118
  | 119 => w 119
  | 120 => w 120
  | 121 => w 121
  | 122 => w 122
  | 123 => w 123
  | 124 => w 124
  | 125 => w 125
  | 126 => w 126
  | 127 => w 127
  | _ => 0#32

/-- A table of 128 tables read at an index's next digit. -/
abbrev node (t : ℕ → ℕ → BitVec 32) (i : ℕ) : BitVec 32 := match i / 128 % 128 with
  | 0 => t 0 i
  | 1 => t 1 i
  | 2 => t 2 i
  | 3 => t 3 i
  | 4 => t 4 i
  | 5 => t 5 i
  | 6 => t 6 i
  | 7 => t 7 i
  | 8 => t 8 i
  | 9 => t 9 i
  | 10 => t 10 i
  | 11 => t 11 i
  | 12 => t 12 i
  | 13 => t 13 i
  | 14 => t 14 i
  | 15 => t 15 i
  | 16 => t 16 i
  | 17 => t 17 i
  | 18 => t 18 i
  | 19 => t 19 i
  | 20 => t 20 i
  | 21 => t 21 i
  | 22 => t 22 i
  | 23 => t 23 i
  | 24 => t 24 i
  | 25 => t 25 i
  | 26 => t 26 i
  | 27 => t 27 i
  | 28 => t 28 i
  | 29 => t 29 i
  | 30 => t 30 i
  | 31 => t 31 i
  | 32 => t 32 i
  | 33 => t 33 i
  | 34 => t 34 i
  | 35 => t 35 i
  | 36 => t 36 i
  | 37 => t 37 i
  | 38 => t 38 i
  | 39 => t 39 i
  | 40 => t 40 i
  | 41 => t 41 i
  | 42 => t 42 i
  | 43 => t 43 i
  | 44 => t 44 i
  | 45 => t 45 i
  | 46 => t 46 i
  | 47 => t 47 i
  | 48 => t 48 i
  | 49 => t 49 i
  | 50 => t 50 i
  | 51 => t 51 i
  | 52 => t 52 i
  | 53 => t 53 i
  | 54 => t 54 i
  | 55 => t 55 i
  | 56 => t 56 i
  | 57 => t 57 i
  | 58 => t 58 i
  | 59 => t 59 i
  | 60 => t 60 i
  | 61 => t 61 i
  | 62 => t 62 i
  | 63 => t 63 i
  | 64 => t 64 i
  | 65 => t 65 i
  | 66 => t 66 i
  | 67 => t 67 i
  | 68 => t 68 i
  | 69 => t 69 i
  | 70 => t 70 i
  | 71 => t 71 i
  | 72 => t 72 i
  | 73 => t 73 i
  | 74 => t 74 i
  | 75 => t 75 i
  | 76 => t 76 i
  | 77 => t 77 i
  | 78 => t 78 i
  | 79 => t 79 i
  | 80 => t 80 i
  | 81 => t 81 i
  | 82 => t 82 i
  | 83 => t 83 i
  | 84 => t 84 i
  | 85 => t 85 i
  | 86 => t 86 i
  | 87 => t 87 i
  | 88 => t 88 i
  | 89 => t 89 i
  | 90 => t 90 i
  | 91 => t 91 i
  | 92 => t 92 i
  | 93 => t 93 i
  | 94 => t 94 i
  | 95 => t 95 i
  | 96 => t 96 i
  | 97 => t 97 i
  | 98 => t 98 i
  | 99 => t 99 i
  | 100 => t 100 i
  | 101 => t 101 i
  | 102 => t 102 i
  | 103 => t 103 i
  | 104 => t 104 i
  | 105 => t 105 i
  | 106 => t 106 i
  | 107 => t 107 i
  | 108 => t 108 i
  | 109 => t 109 i
  | 110 => t 110 i
  | 111 => t 111 i
  | 112 => t 112 i
  | 113 => t 113 i
  | 114 => t 114 i
  | 115 => t 115 i
  | 116 => t 116 i
  | 117 => t 117 i
  | 118 => t 118 i
  | 119 => t 119 i
  | 120 => t 120 i
  | 121 => t 121 i
  | 122 => t 122 i
  | 123 => t 123 i
  | 124 => t 124 i
  | 125 => t 125 i
  | 126 => t 126 i
  | 127 => t 127 i
  | _ => 0#32

theorem leaf_apply (w : ℕ → BitVec 32) (i : ℕ) : leaf w i = w (i % 128) := by
  have h : i % 128 < 128 := Nat.mod_lt _ (by omega)
  unfold leaf
  generalize i % 128 = k at h
  interval_cases k <;> rfl

theorem node_apply (t : ℕ → ℕ → BitVec 32) (i : ℕ) : node t i = t (i / 128 % 128) i := by
  have h : i / 128 % 128 < 128 := Nat.mod_lt _ (by omega)
  unfold node
  generalize i / 128 % 128 = k at h
  interval_cases k <;> rfl

/-- A full tree of 16384 words, from a formula for the word at an index, the first index being `16384 * m`. -/
abbrev tree (f : ℕ → BitVec 32) (m : ℕ) : ℕ → BitVec 32 := node fun k => leaf fun j => f (16384 * m + 128 * k + j)

theorem tree_apply (f : ℕ → BitVec 32) (m i : ℕ) (h : i / 16384 = m) : tree f m i = f i := by
  unfold tree
  rw [node_apply, leaf_apply]
  congr 1
  omega

end Cert.Table

end
-- ==== Proof.SelTable.lean ====
/- The kernel's 2025 by 81 table that picks, for each of the 25 taps of a 5 by 5 window and each cell of the 9 by 9 grid,
   the cell the tap meets, read off its words. -/
module

public import proofs.«01_k».proof.Proof.TableKit
public import proofs.«01_k».proof.KernelIdeal

@[expose] public section

set_option maxHeartbeats 8000000
set_option maxRecDepth 100000

namespace Cert.Table

open Cert.KernelIdeal Idealize.ShloMosaic

/-- The word at a row-major index: one where the row's tap and cell meet the column's cell, zero elsewhere. -/
def selWord (n : ℕ) : BitVec 32 :=
  bif Nat.beq (n / 81 % 81 / 9 + n / 81 / 81 / 5) (n % 81 / 9 + 2) &&
      Nat.beq (n / 81 % 81 % 9 + n / 81 / 81 % 5) (n % 81 % 9 + 2)
  then 0x3F800000#32 else 0x00000000#32

theorem sel0 : lit0t1_0 = tree selWord 0 := rfl
theorem sel1 : lit0t1_1 = tree selWord 1 := rfl
theorem sel2 : lit0t1_2 = tree selWord 2 := rfl
theorem sel3 : lit0t1_3 = tree selWord 3 := rfl
theorem sel4 : lit0t1_4 = tree selWord 4 := rfl
theorem sel5 : lit0t1_5 = tree selWord 5 := rfl
theorem sel6 : lit0t1_6 = tree selWord 6 := rfl
theorem sel7 : lit0t1_7 = tree selWord 7 := rfl
theorem sel8 : lit0t1_8 = tree selWord 8 := rfl
theorem sel9 : lit0t1_9 = tree selWord 9 := rfl

/-- The last 185 words. -/
theorem sel10 : ∀ j : Fin 185, lit0t1_10 (163840 + j.val) = selWord (163840 + j.val) := by decide +kernel

/-- The whole table is that formula. -/
theorem sel_apply (i : Fin 164025) : lit0 i = selWord i.val := by
  obtain ⟨i, hi⟩ := i
  have h : i / 16384 < 11 := by omega
  show lit0t i = selWord i
  rw [lit0t]
  generalize e : i / 16384 = k at h
  interval_cases k
  · exact (congrFun sel0 i).trans (tree_apply _ _ _ e)
  · exact (congrFun sel1 i).trans (tree_apply _ _ _ e)
  · exact (congrFun sel2 i).trans (tree_apply _ _ _ e)
  · exact (congrFun sel3 i).trans (tree_apply _ _ _ e)
  · exact (congrFun sel4 i).trans (tree_apply _ _ _ e)
  · exact (congrFun sel5 i).trans (tree_apply _ _ _ e)
  · exact (congrFun sel6 i).trans (tree_apply _ _ _ e)
  · exact (congrFun sel7 i).trans (tree_apply _ _ _ e)
  · exact (congrFun sel8 i).trans (tree_apply _ _ _ e)
  · exact (congrFun sel9 i).trans (tree_apply _ _ _ e)
  · have h10 := sel10 ⟨i - 163840, by omega⟩
    have e10 : 163840 + (i - 163840) = i := by omega
    simp only [e10] at h10
    exact h10

end Cert.Table

end
-- ==== Proof.RefDense.lean ====
/- The reference's dense part, read at an index: each layer of its array program is the layer of the mathematics. -/
module

public import proofs.«01_k».proof.Proof.SelTable
public import proofs.«01_k».proof.Proof.Gen.ReferenceIdeal.Run

@[expose] public section

set_option maxRecDepth 16384

noncomputable section

namespace Cert.RefVal

open Cert.ReferenceIdeal Cert.ReferenceIdeal.Gen Idealize.ShloMosaic Idealize.ShloMosaic.TcCoe Idealize.ShloMosaic.StableHlo

/-! ## The layers as the program spells them -/

/-- The first layer. -/
def aHid1 (t : FVec Ideal S4x9x9x640 .f32) (w : FVec Ideal S640x32 .f32) (b : FVec Ideal S32 .f32) :
    FVec Ideal S4x9x9x32 .f32 :=
  maximumf (addf (Host.dotGeneral dot_S4x9x9x640_S640x32_S4x9x9x32_3_0_012_1_n_n none t w)
      (broadcastInDim S4x9x9x32 ![0, 1, 2, 3] bcast_S1x1x1x32_S4x9x9x32_0_1_2_3 (broadcastInDim S1x1x1x32 ![3] bcast_S32_S1x1x1x32_3 b)))
    (broadcastInDim S4x9x9x32 ![] bcast_S_S4x9x9x32 (constant S_ .f32 0x00000000#32))

/-- The second layer. -/
def aHid2 (t : FVec Ideal S4x9x9x32 .f32) (w : FVec Ideal S32x32 .f32) (b : FVec Ideal S32 .f32) :
    FVec Ideal S4x9x9x32 .f32 :=
  addf (Host.dotGeneral dot_S4x9x9x32_S32x32_S4x9x9x32_3_0_012_1_n_n none t w)
    (broadcastInDim S4x9x9x32 ![0, 1, 2, 3] bcast_S1x1x1x32_S4x9x9x32_0_1_2_3 (broadcastInDim S1x1x1x32 ![3] bcast_S32_S1x1x1x32_3 b))

/-- The queries, keys and values. -/
def aQkv (t : FVec Ideal S4x9x9x32 .f32) (w : FVec Ideal S192x32x1x1 .f32) : FVec Ideal S4x192x9x9 .f32 :=
  shapeCast _ (transpose S4x1x192x9x9 [2, 0, 1, 3, 4] (Host.dotGeneral dot_S1x192x32_S4x1x32x9x9_S1x192x4x9x9_2_2_1_034_0_1 none (shapeCast _ (shapeCast _ w shapeCasts_S192x32x1x1_S192x32) shapeCasts_S192x32_S1x192x32) (shapeCast _ (transpose S4x32x9x9 [0, 3, 1, 2] t transposes_S4x9x9x32_S4x32x9x9_0_3_1_2) shapeCasts_S4x32x9x9_S4x1x32x9x9)) transposes_S1x192x4x9x9_S4x1x192x9x9_2_0_1_3_4) shapeCasts_S4x1x192x9x9_S4x192x9x9

/-- The grid with its border of two zero cells. -/
def aPad (t : FVec Ideal S4x192x9x9 .f32) : FVec Ideal S4x192x13x13 .f32 :=
  pad S4x192x13x13 ![0, 0, 2, 2] ![0, 0, 2, 2] ![0, 0, 0, 0] t (sitofp .f32 (constantI S_ 32 0#32)) pads_S4x192x9x9_S4x192x13x13_000_000_220_220 h_S_

/-- The window's row 0, added to what the rows before it give. -/
def aDw0 (acc : FVec Ideal S4x192x9x9 .f32) (q : FVec Ideal S4x192x13x13 .f32) (w : FVec Ideal S192x1x5x5 .f32) :
    FVec Ideal S4x192x9x9 .f32 :=
  addf (addf (addf (addf (addf acc (mulf (extractStridedSlice S4x192x9x9 ![0, 0, 0, 0] q slices_S4x192x13x13_S4x192x9x9_0_0_0_0) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 0, 0] w slices_S192x1x5x5_S192x1x1x1_0_0_0_0) shapeCasts_S192x1x1x1_S192))))) (mulf (extractStridedSlice S4x192x9x9 ![0, 0, 0, 1] q slices_S4x192x13x13_S4x192x9x9_0_0_0_1) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 0, 1] w slices_S192x1x5x5_S192x1x1x1_0_0_0_1) shapeCasts_S192x1x1x1_S192))))) (mulf (extractStridedSlice S4x192x9x9 ![0, 0, 0, 2] q slices_S4x192x13x13_S4x192x9x9_0_0_0_2) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 0, 2] w slices_S192x1x5x5_S192x1x1x1_0_0_0_2) shapeCasts_S192x1x1x1_S192))))) (mulf (extractStridedSlice S4x192x9x9 ![0, 0, 0, 3] q slices_S4x192x13x13_S4x192x9x9_0_0_0_3) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 0, 3] w slices_S192x1x5x5_S192x1x1x1_0_0_0_3) shapeCasts_S192x1x1x1_S192))))) (mulf (extractStridedSlice S4x192x9x9 ![0, 0, 0, 4] q slices_S4x192x13x13_S4x192x9x9_0_0_0_4) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 0, 4] w slices_S192x1x5x5_S192x1x1x1_0_0_0_4) shapeCasts_S192x1x1x1_S192))))

/-- The window's row 1, added to what the rows before it give. -/
def aDw1 (acc : FVec Ideal S4x192x9x9 .f32) (q : FVec Ideal S4x192x13x13 .f32) (w : FVec Ideal S192x1x5x5 .f32) :
    FVec Ideal S4x192x9x9 .f32 :=
  addf (addf (addf (addf (addf acc (mulf (extractStridedSlice S4x192x9x9 ![0, 0, 1, 0] q slices_S4x192x13x13_S4x192x9x9_0_0_1_0) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 1, 0] w slices_S192x1x5x5_S192x1x1x1_0_0_1_0) shapeCasts_S192x1x1x1_S192))))) (mulf (extractStridedSlice S4x192x9x9 ![0, 0, 1, 1] q slices_S4x192x13x13_S4x192x9x9_0_0_1_1) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 1, 1] w slices_S192x1x5x5_S192x1x1x1_0_0_1_1) shapeCasts_S192x1x1x1_S192))))) (mulf (extractStridedSlice S4x192x9x9 ![0, 0, 1, 2] q slices_S4x192x13x13_S4x192x9x9_0_0_1_2) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 1, 2] w slices_S192x1x5x5_S192x1x1x1_0_0_1_2) shapeCasts_S192x1x1x1_S192))))) (mulf (extractStridedSlice S4x192x9x9 ![0, 0, 1, 3] q slices_S4x192x13x13_S4x192x9x9_0_0_1_3) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 1, 3] w slices_S192x1x5x5_S192x1x1x1_0_0_1_3) shapeCasts_S192x1x1x1_S192))))) (mulf (extractStridedSlice S4x192x9x9 ![0, 0, 1, 4] q slices_S4x192x13x13_S4x192x9x9_0_0_1_4) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 1, 4] w slices_S192x1x5x5_S192x1x1x1_0_0_1_4) shapeCasts_S192x1x1x1_S192))))

/-- The window's row 2, added to what the rows before it give. -/
def aDw2 (acc : FVec Ideal S4x192x9x9 .f32) (q : FVec Ideal S4x192x13x13 .f32) (w : FVec Ideal S192x1x5x5 .f32) :
    FVec Ideal S4x192x9x9 .f32 :=
  addf (addf (addf (addf (addf acc (mulf (extractStridedSlice S4x192x9x9 ![0, 0, 2, 0] q slices_S4x192x13x13_S4x192x9x9_0_0_2_0) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 2, 0] w slices_S192x1x5x5_S192x1x1x1_0_0_2_0) shapeCasts_S192x1x1x1_S192))))) (mulf (extractStridedSlice S4x192x9x9 ![0, 0, 2, 1] q slices_S4x192x13x13_S4x192x9x9_0_0_2_1) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 2, 1] w slices_S192x1x5x5_S192x1x1x1_0_0_2_1) shapeCasts_S192x1x1x1_S192))))) (mulf (extractStridedSlice S4x192x9x9 ![0, 0, 2, 2] q slices_S4x192x13x13_S4x192x9x9_0_0_2_2) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 2, 2] w slices_S192x1x5x5_S192x1x1x1_0_0_2_2) shapeCasts_S192x1x1x1_S192))))) (mulf (extractStridedSlice S4x192x9x9 ![0, 0, 2, 3] q slices_S4x192x13x13_S4x192x9x9_0_0_2_3) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 2, 3] w slices_S192x1x5x5_S192x1x1x1_0_0_2_3) shapeCasts_S192x1x1x1_S192))))) (mulf (extractStridedSlice S4x192x9x9 ![0, 0, 2, 4] q slices_S4x192x13x13_S4x192x9x9_0_0_2_4) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 2, 4] w slices_S192x1x5x5_S192x1x1x1_0_0_2_4) shapeCasts_S192x1x1x1_S192))))

/-- The window's row 3, added to what the rows before it give. -/
def aDw3 (acc : FVec Ideal S4x192x9x9 .f32) (q : FVec Ideal S4x192x13x13 .f32) (w : FVec Ideal S192x1x5x5 .f32) :
    FVec Ideal S4x192x9x9 .f32 :=
  addf (addf (addf (addf (addf acc (mulf (extractStridedSlice S4x192x9x9 ![0, 0, 3, 0] q slices_S4x192x13x13_S4x192x9x9_0_0_3_0) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 3, 0] w slices_S192x1x5x5_S192x1x1x1_0_0_3_0) shapeCasts_S192x1x1x1_S192))))) (mulf (extractStridedSlice S4x192x9x9 ![0, 0, 3, 1] q slices_S4x192x13x13_S4x192x9x9_0_0_3_1) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 3, 1] w slices_S192x1x5x5_S192x1x1x1_0_0_3_1) shapeCasts_S192x1x1x1_S192))))) (mulf (extractStridedSlice S4x192x9x9 ![0, 0, 3, 2] q slices_S4x192x13x13_S4x192x9x9_0_0_3_2) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 3, 2] w slices_S192x1x5x5_S192x1x1x1_0_0_3_2) shapeCasts_S192x1x1x1_S192))))) (mulf (extractStridedSlice S4x192x9x9 ![0, 0, 3, 3] q slices_S4x192x13x13_S4x192x9x9_0_0_3_3) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 3, 3] w slices_S192x1x5x5_S192x1x1x1_0_0_3_3) shapeCasts_S192x1x1x1_S192))))) (mulf (extractStridedSlice S4x192x9x9 ![0, 0, 3, 4] q slices_S4x192x13x13_S4x192x9x9_0_0_3_4) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 3, 4] w slices_S192x1x5x5_S192x1x1x1_0_0_3_4) shapeCasts_S192x1x1x1_S192))))

/-- The window's row 4, added to what the rows before it give. -/
def aDw4 (acc : FVec Ideal S4x192x9x9 .f32) (q : FVec Ideal S4x192x13x13 .f32) (w : FVec Ideal S192x1x5x5 .f32) :
    FVec Ideal S4x192x9x9 .f32 :=
  addf (addf (addf (addf (addf acc (mulf (extractStridedSlice S4x192x9x9 ![0, 0, 4, 0] q slices_S4x192x13x13_S4x192x9x9_0_0_4_0) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 4, 0] w slices_S192x1x5x5_S192x1x1x1_0_0_4_0) shapeCasts_S192x1x1x1_S192))))) (mulf (extractStridedSlice S4x192x9x9 ![0, 0, 4, 1] q slices_S4x192x13x13_S4x192x9x9_0_0_4_1) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 4, 1] w slices_S192x1x5x5_S192x1x1x1_0_0_4_1) shapeCasts_S192x1x1x1_S192))))) (mulf (extractStridedSlice S4x192x9x9 ![0, 0, 4, 2] q slices_S4x192x13x13_S4x192x9x9_0_0_4_2) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 4, 2] w slices_S192x1x5x5_S192x1x1x1_0_0_4_2) shapeCasts_S192x1x1x1_S192))))) (mulf (extractStridedSlice S4x192x9x9 ![0, 0, 4, 3] q slices_S4x192x13x13_S4x192x9x9_0_0_4_3) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 4, 3] w slices_S192x1x5x5_S192x1x1x1_0_0_4_3) shapeCasts_S192x1x1x1_S192))))) (mulf (extractStridedSlice S4x192x9x9 ![0, 0, 4, 4] q slices_S4x192x13x13_S4x192x9x9_0_0_4_4) (broadcastInDim S4x192x9x9 ![0, 1, 2, 3] bcast_S1x192x1x1_S4x192x9x9_0_1_2_3 (broadcastInDim S1x192x1x1 ![1] bcast_S192_S1x192x1x1_1 (shapeCast _ (extractStridedSlice S192x1x1x1 ![0, 0, 4, 4] w slices_S192x1x5x5_S192x1x1x1_0_0_4_4) shapeCasts_S192x1x1x1_S192))))

/-- The depthwise convolution of the padded grid. -/
def aDw (q : FVec Ideal S4x192x13x13 .f32) (w : FVec Ideal S192x1x5x5 .f32) : FVec Ideal S4x192x9x9 .f32 :=
  aDw4 (aDw3 (aDw2 (aDw1 (aDw0 (broadcastInDim S4x192x9x9 ![] bcast_S_S4x192x9x9 (constant S_ .f32 0x00000000#32)) q w) q w) q w) q w) q w

/-- The pointwise convolution in groups. -/
def aPw (t : FVec Ideal S4x192x9x9 .f32) (w : FVec Ideal S192x8x1x1 .f32) : FVec Ideal S4x192x9x9 .f32 :=
  shapeCast _ (transpose S4x24x8x9x9 [2, 0, 1, 3, 4] (Host.dotGeneral dot_S24x8x8_S4x24x8x9x9_S24x8x4x9x9_2_2_1_034_0_1 none (shapeCast _ (shapeCast _ w shapeCasts_S192x8x1x1_S192x8) shapeCasts_S192x8_S24x8x8) (shapeCast _ t shapeCasts_S4x192x9x9_S4x24x8x9x9)) transposes_S24x8x4x9x9_S4x24x8x9x9_2_0_1_3_4) shapeCasts_S4x24x8x9x9_S4x192x9x9

/-- The two scales side by side, cut into heads. -/
def aMulti (q g : FVec Ideal S4x192x9x9 .f32) : FVec Ideal S4x16x24x81 .f32 :=
  shapeCast _ (concatenate S4x384x9x9 1 [⟨S4x192x9x9, q⟩, ⟨S4x192x9x9, g⟩] concatenates_S4x192x9x9_S4x192x9x9_S4x384x9x9_d1) shapeCasts_S4x384x9x9_S4x16x24x81

/-- A head's keys against its values and ones. -/
def aKeyVal (m : FVec Ideal S4x16x24x81 .f32) : FVec Ideal S4x16x9x8 .f32 :=
  Host.dotGeneral dot_S4x16x9x81_S4x16x81x8_S4x16x9x8_3_2_2_3_01_01 none (concatenate S4x16x9x81 2 [⟨S4x16x8x81, (extractStridedSlice S4x16x8x81 ![0, 0, 16, 0] m slices_S4x16x24x81_S4x16x8x81_0_0_16_0)⟩, ⟨S4x16x1x81, (broadcastInDim S4x16x1x81 ![] bcast_S_S4x16x1x81 (constant S_ .f32 0x3F800000#32))⟩] concatenates_S4x16x8x81_S4x16x1x81_S4x16x9x81_d2) (transpose S4x16x81x8 [0, 1, 3, 2] (maximumf (extractStridedSlice S4x16x8x81 ![0, 0, 8, 0] m slices_S4x16x24x81_S4x16x8x81_0_0_8_0) (broadcastInDim S4x16x8x81 ![] bcast_S_S4x16x8x81 (constant S_ .f32 0x00000000#32))) transposes_S4x16x8x81_S4x16x81x8_0_1_3_2)

/-- A head's queries against the same. -/
def aHead (m : FVec Ideal S4x16x24x81 .f32) (v : FVec Ideal S4x16x9x8 .f32) : FVec Ideal S4x16x9x81 .f32 :=
  Host.dotGeneral dot_S4x16x9x8_S4x16x8x81_S4x16x9x81_3_2_2_3_01_01 none v (maximumf (extractStridedSlice S4x16x8x81 ![0, 0, 0, 0] m slices_S4x16x24x81_S4x16x8x81_0_0_0_0) (broadcastInDim S4x16x8x81 ![] bcast_S_S4x16x8x81 (constant S_ .f32 0x00000000#32)))

/-- The heads' values over their last column. -/
def aAtt (u : FVec Ideal S4x16x9x81 .f32) : FVec Ideal S4x128x9x9 .f32 :=
  shapeCast _ (Host.divf (extractStridedSlice S4x16x8x81 ![0, 0, 0, 0] u slices_S4x16x9x81_S4x16x8x81_0_0_0_0) (broadcastInDim S4x16x8x81 ![0, 1, 2, 3] bcast_S4x16x1x81_S4x16x8x81_0_1_2_3 (addf (extractStridedSlice S4x16x1x81 ![0, 0, 8, 0] u slices_S4x16x9x81_S4x16x1x81_0_0_8_0) (broadcastInDim S4x16x1x81 ![] bcast_S_S4x16x1x81 (constant S_ .f32 0x26901D7D#32))))) shapeCasts_S4x16x8x81_S4x128x9x9

/-- The projection. -/
def aProj (t : FVec Ideal S4x128x9x9 .f32) (w : FVec Ideal S64x128x1x1 .f32) : FVec Ideal S4x64x9x9 .f32 :=
  shapeCast _ (transpose S4x1x64x9x9 [2, 0, 1, 3, 4] (Host.dotGeneral dot_S1x64x128_S4x1x128x9x9_S1x64x4x9x9_2_2_1_034_0_1 none (shapeCast _ (shapeCast _ w shapeCasts_S64x128x1x1_S64x128) shapeCasts_S64x128_S1x64x128) (shapeCast _ t shapeCasts_S4x128x9x9_S4x1x128x9x9)) transposes_S1x64x4x9x9_S4x1x64x9x9_2_0_1_3_4) shapeCasts_S4x1x64x9x9_S4x64x9x9

/-- The normalisation. -/
def aNorm (t : FVec Ideal S4x64x9x9 .f32) (γ β : FVec Ideal S64 .f32) : FVec Ideal S4x64x81 .f32 :=
  shapeCast _ (addf (mulf (Host.divf t (broadcastInDim S4x64x9x9 ![] bcast_S_S4x64x9x9 (constant S_ .f32 0x3F80002A#32))) (broadcastInDim S4x64x9x9 ![0, 1, 2, 3] bcast_S1x64x1x1_S4x64x9x9_0_1_2_3 (broadcastInDim S1x64x1x1 ![1] bcast_S64_S1x64x1x1_1 γ))) (broadcastInDim S4x64x9x9 ![0, 1, 2, 3] bcast_S1x64x1x1_S4x64x9x9_0_1_2_3 (broadcastInDim S1x64x1x1 ![1] bcast_S64_S1x64x1x1_1 β))) shapeCasts_S4x64x9x9_S4x64x81

/-! ## Each layer at an index -/

theorem aHid1_apply (t : FVec Ideal S4x9x9x640 .f32) (w : FVec Ideal S640x32 .f32) (b : FVec Ideal S32 .f32)
    (i : Fin 4) (p q : Fin 9) (o : Fin 32) :
    aHid1 t w b (ix4 i p q o) = Spec.relu (∑ k : Fin 640, t (ix4 i p q k) * w (ix2 k o) + b (ix1 o)) := by
  pointwise [aHid1, Spec.relu]

theorem aHid2_apply (t : FVec Ideal S4x9x9x32 .f32) (w : FVec Ideal S32x32 .f32) (b : FVec Ideal S32 .f32)
    (i : Fin 4) (p q : Fin 9) (o : Fin 32) :
    aHid2 t w b (ix4 i p q o) = ∑ k : Fin 32, t (ix4 i p q k) * w (ix2 k o) + b (ix1 o) := by
  pointwise [aHid2]

theorem aQkv_apply (t : FVec Ideal S4x9x9x32 .f32) (w : FVec Ideal S192x32x1x1 .f32) (i : Fin 4) (c : Fin 192)
    (p q : Fin 9) : aQkv t w (ix4 i c p q) = ∑ k : Fin 32, t (ix4 i p q k) * w (ix4 c k 0 0) := by
  pointwise [aQkv]
  exact Finset.sum_congr rfl fun k _ => mul_comm _ _

theorem aPad_apply (t : FVec Ideal S4x192x9x9 .f32) (i : Fin 4) (c : Fin 192) (p q : Fin 13) :
    aPad t (ix4 i c p q) = if h : 2 ≤ p.val ∧ p.val < 11 ∧ 2 ≤ q.val ∧ q.val < 11
      then t (ix4 i c ⟨p.val - 2, by omega⟩ ⟨q.val - 2, by omega⟩) else 0 := by
  have h0 : (FloatOps.sitofp (F := Ideal) FTy.f32 (0#32)) = (0 : EReal) := by
    show (((0#32 : BitVec 32).toInt : ℝ) : EReal) = 0
    simp
  pointwise [aPad]
  by_cases h : 2 ≤ p.val ∧ p.val < 11 ∧ 2 ≤ q.val ∧ q.val < 11
  · rw [dif_pos h, dif_pos (by omega)]
  · rw [dif_neg h, dif_neg (by omega)]
    exact h0

theorem aDw0_apply (acc : FVec Ideal S4x192x9x9 .f32) (q : FVec Ideal S4x192x13x13 .f32) (w : FVec Ideal S192x1x5x5 .f32)
    (i : Fin 4) (c : Fin 192) (a b : Fin 9) : aDw0 acc q w (ix4 i c a b) = acc (ix4 i c a b) + q (ix4 i c ⟨a.val, by omega⟩ ⟨b.val, by omega⟩) * w (ix4 c 0 0 0)
      + q (ix4 i c ⟨a.val, by omega⟩ ⟨1 + b.val, by omega⟩) * w (ix4 c 0 0 1)
      + q (ix4 i c ⟨a.val, by omega⟩ ⟨2 + b.val, by omega⟩) * w (ix4 c 0 0 2)
      + q (ix4 i c ⟨a.val, by omega⟩ ⟨3 + b.val, by omega⟩) * w (ix4 c 0 0 3)
      + q (ix4 i c ⟨a.val, by omega⟩ ⟨4 + b.val, by omega⟩) * w (ix4 c 0 0 4) := by
  pointwise [aDw0]

theorem aDw1_apply (acc : FVec Ideal S4x192x9x9 .f32) (q : FVec Ideal S4x192x13x13 .f32) (w : FVec Ideal S192x1x5x5 .f32)
    (i : Fin 4) (c : Fin 192) (a b : Fin 9) : aDw1 acc q w (ix4 i c a b) = acc (ix4 i c a b) + q (ix4 i c ⟨1 + a.val, by omega⟩ ⟨b.val, by omega⟩) * w (ix4 c 0 1 0)
      + q (ix4 i c ⟨1 + a.val, by omega⟩ ⟨1 + b.val, by omega⟩) * w (ix4 c 0 1 1)
      + q (ix4 i c ⟨1 + a.val, by omega⟩ ⟨2 + b.val, by omega⟩) * w (ix4 c 0 1 2)
      + q (ix4 i c ⟨1 + a.val, by omega⟩ ⟨3 + b.val, by omega⟩) * w (ix4 c 0 1 3)
      + q (ix4 i c ⟨1 + a.val, by omega⟩ ⟨4 + b.val, by omega⟩) * w (ix4 c 0 1 4) := by
  pointwise [aDw1]

theorem aDw2_apply (acc : FVec Ideal S4x192x9x9 .f32) (q : FVec Ideal S4x192x13x13 .f32) (w : FVec Ideal S192x1x5x5 .f32)
    (i : Fin 4) (c : Fin 192) (a b : Fin 9) : aDw2 acc q w (ix4 i c a b) = acc (ix4 i c a b) + q (ix4 i c ⟨2 + a.val, by omega⟩ ⟨b.val, by omega⟩) * w (ix4 c 0 2 0)
      + q (ix4 i c ⟨2 + a.val, by omega⟩ ⟨1 + b.val, by omega⟩) * w (ix4 c 0 2 1)
      + q (ix4 i c ⟨2 + a.val, by omega⟩ ⟨2 + b.val, by omega⟩) * w (ix4 c 0 2 2)
      + q (ix4 i c ⟨2 + a.val, by omega⟩ ⟨3 + b.val, by omega⟩) * w (ix4 c 0 2 3)
      + q (ix4 i c ⟨2 + a.val, by omega⟩ ⟨4 + b.val, by omega⟩) * w (ix4 c 0 2 4) := by
  pointwise [aDw2]

theorem aDw3_apply (acc : FVec Ideal S4x192x9x9 .f32) (q : FVec Ideal S4x192x13x13 .f32) (w : FVec Ideal S192x1x5x5 .f32)
    (i : Fin 4) (c : Fin 192) (a b : Fin 9) : aDw3 acc q w (ix4 i c a b) = acc (ix4 i c a b) + q (ix4 i c ⟨3 + a.val, by omega⟩ ⟨b.val, by omega⟩) * w (ix4 c 0 3 0)
      + q (ix4 i c ⟨3 + a.val, by omega⟩ ⟨1 + b.val, by omega⟩) * w (ix4 c 0 3 1)
      + q (ix4 i c ⟨3 + a.val, by omega⟩ ⟨2 + b.val, by omega⟩) * w (ix4 c 0 3 2)
      + q (ix4 i c ⟨3 + a.val, by omega⟩ ⟨3 + b.val, by omega⟩) * w (ix4 c 0 3 3)
      + q (ix4 i c ⟨3 + a.val, by omega⟩ ⟨4 + b.val, by omega⟩) * w (ix4 c 0 3 4) := by
  pointwise [aDw3]

theorem aDw4_apply (acc : FVec Ideal S4x192x9x9 .f32) (q : FVec Ideal S4x192x13x13 .f32) (w : FVec Ideal S192x1x5x5 .f32)
    (i : Fin 4) (c : Fin 192) (a b : Fin 9) : aDw4 acc q w (ix4 i c a b) = acc (ix4 i c a b) + q (ix4 i c ⟨4 + a.val, by omega⟩ ⟨b.val, by omega⟩) * w (ix4 c 0 4 0)
      + q (ix4 i c ⟨4 + a.val, by omega⟩ ⟨1 + b.val, by omega⟩) * w (ix4 c 0 4 1)
      + q (ix4 i c ⟨4 + a.val, by omega⟩ ⟨2 + b.val, by omega⟩) * w (ix4 c 0 4 2)
      + q (ix4 i c ⟨4 + a.val, by omega⟩ ⟨3 + b.val, by omega⟩) * w (ix4 c 0 4 3)
      + q (ix4 i c ⟨4 + a.val, by omega⟩ ⟨4 + b.val, by omega⟩) * w (ix4 c 0 4 4) := by
  pointwise [aDw4]

theorem aPw_apply (t : FVec Ideal S4x192x9x9 .f32) (w : FVec Ideal S192x8x1x1 .f32) (i : Fin 4) (c : Fin 192) (a b : Fin 9) :
    aPw t w (ix4 i c a b) = ∑ j : Fin 8, t (ix4 i ⟨8 * (c.val / 8) + j.val, by omega⟩ a b) * w (ix4 c j 0 0) := by
  pointwise [aPw]
  refine Finset.sum_congr rfl fun k _ => ?_
  rw [mul_comm]
  simp only [Nat.mul_comm (c.val / 8) 8]

theorem aMulti_apply (q g : FVec Ideal S4x192x9x9 .f32) (i : Fin 4) (h : Fin 16) (d : Fin 24) (p : Fin 81) :
    aMulti q g (ix4 i h d p) = if hc : 24 * h.val + d.val < 192
      then q (ix4 i ⟨24 * h.val + d.val, hc⟩ ⟨p.val / 9, by omega⟩ ⟨p.val % 9, by omega⟩)
      else g (ix4 i ⟨24 * h.val + d.val - 192, by omega⟩ ⟨p.val / 9, by omega⟩ ⟨p.val % 9, by omega⟩) := by
  pointwise [aMulti]
  simp only [Nat.mul_comm h.val 24]

theorem aKeyVal_apply (m : FVec Ideal S4x16x24x81 .f32) (i : Fin 4) (h : Fin 16) (e : Fin 9) (d : Fin 8) :
    aKeyVal m (ix4 i h e d) = ∑ p : Fin 81, Spec.relu (m (ix4 i h ⟨8 + d.val, by omega⟩ p)) *
      (if g : e.val < 8 then m (ix4 i h ⟨16 + e.val, by omega⟩ p) else 1) := by
  pointwise [aKeyVal, Spec.relu]
  exact Finset.sum_congr rfl fun k _ => mul_comm _ _

theorem aHead_apply (m : FVec Ideal S4x16x24x81 .f32) (v : FVec Ideal S4x16x9x8 .f32) (i : Fin 4) (h : Fin 16) (e : Fin 9)
    (p : Fin 81) : aHead m v (ix4 i h e p)
      = ∑ d : Fin 8, Spec.relu (m (ix4 i h ⟨d.val, by omega⟩ p)) * v (ix4 i h e d) := by
  pointwise [aHead, Spec.relu]
  exact Finset.sum_congr rfl fun k _ => mul_comm _ _

theorem aAtt_apply (u : FVec Ideal S4x16x9x81 .f32) (i : Fin 4) (c : Fin 128) (a b : Fin 9) :
    aAtt u (ix4 i c a b) = Ideal.div (u (ix4 i ⟨c.val / 8, by omega⟩ ⟨c.val % 8, by omega⟩ ⟨9 * a.val + b.val, by omega⟩))
      (u (ix4 i ⟨c.val / 8, by omega⟩ 8 ⟨9 * a.val + b.val, by omega⟩) + Ideal.ofBits .f32 0x26901D7D#32) := by
  pointwise [aAtt]
  simp only [Nat.mul_comm a.val 9]

theorem aProj_apply (t : FVec Ideal S4x128x9x9 .f32) (w : FVec Ideal S64x128x1x1 .f32) (i : Fin 4) (o : Fin 64)
    (a b : Fin 9) : aProj t w (ix4 i o a b) = ∑ c : Fin 128, t (ix4 i c a b) * w (ix4 o c 0 0) := by
  pointwise [aProj]
  exact Finset.sum_congr rfl fun k _ => mul_comm _ _

theorem aNorm_apply (t : FVec Ideal S4x64x9x9 .f32) (γ β : FVec Ideal S64 .f32) (i : Fin 4) (o : Fin 64) (p : Fin 81) :
    aNorm t γ β (ix3 i o p) = Ideal.div (t (ix4 i o ⟨p.val / 9, by omega⟩ ⟨p.val % 9, by omega⟩))
      (Ideal.ofBits .f32 0x3F80002A#32) * γ (ix1 o) + β (ix1 o) := by
  pointwise [aNorm]

/-! ## The layers one after the other -/

/-- A grid of values per batch and channel, as a table over the 81 cells of one batch. -/
def cells {n : ℕ} (t : (⟨4, ![4, n, 9, 9]⟩ : Shape).Idx → EReal) (i : Fin 4) (p : Fin 81) (c : Fin n) : EReal :=
  t (ix4 i c ⟨p.val / 9, by omega⟩ ⟨p.val % 9, by omega⟩)

/-- The same for a grid whose channels come last. -/
def cellsLast {n : ℕ} (t : (⟨4, ![4, 9, 9, n]⟩ : Shape).Idx → EReal) (i : Fin 4) (p : Fin 81) (c : Fin n) : EReal :=
  t (ix4 i ⟨p.val / 9, by omega⟩ ⟨p.val % 9, by omega⟩ c)

/-- The weights of the dense part, from the program's arguments. -/
def weights (a3 : FVec Ideal S640x32 .f32) (a4 : FVec Ideal S32 .f32) (a5 : FVec Ideal S32x32 .f32)
    (a6 : FVec Ideal S32 .f32) (a7 : FVec Ideal S192x32x1x1 .f32) (a8 : FVec Ideal S192x1x5x5 .f32)
    (a9 : FVec Ideal S192x8x1x1 .f32) (a10 : FVec Ideal S64x128x1x1 .f32) (a11 a12 : FVec Ideal S64 .f32) :
    Spec.Weights where
  w1 k o := a3 (ix2 k o)
  b1 o := a4 (ix1 o)
  w2 k o := a5 (ix2 k o)
  b2 o := a6 (ix1 o)
  wqkv c k := a7 (ix4 c k 0 0)
  wdw c t := a8 (ix4 c 0 ⟨t.val / 5, by omega⟩ ⟨t.val % 5, by omega⟩)
  wpw c j := a9 (ix4 c j 0 0)
  wproj o c := a10 (ix4 o c 0 0)
  γ o := a11 (ix1 o)
  β o := a12 (ix1 o)
  eps := Ideal.ofBits .f32 0x26901D7D#32
  s := Ideal.ofBits .f32 0x3F80002A#32

theorem cells_qkv (t : FVec Ideal S4x9x9x640 .f32) (a3 : FVec Ideal S640x32 .f32) (a4 : FVec Ideal S32 .f32)
    (a5 : FVec Ideal S32x32 .f32) (a6 : FVec Ideal S32 .f32) (a7 : FVec Ideal S192x32x1x1 .f32)
    (a8 : FVec Ideal S192x1x5x5 .f32) (a9 : FVec Ideal S192x8x1x1 .f32) (a10 : FVec Ideal S64x128x1x1 .f32)
    (a11 a12 : FVec Ideal S64 .f32) (i : Fin 4) :
    cells (aQkv (aHid2 (aHid1 t a3 a4) a5 a6) a7) i
      = Spec.denseQkv (weights a3 a4 a5 a6 a7 a8 a9 a10 a11 a12) (cellsLast t i) := by
  funext p c
  simp only [cells, aQkv_apply, aHid2_apply, aHid1_apply]
  rfl

/-- The padded grid at a window's tap. -/
theorem tap_pad (t : FVec Ideal S4x192x9x9 .f32) (i : Fin 4) (c : Fin 192) (p : Fin 81) (k : Fin 25) (x y : Fin 13)
    (hx : x.val = k.val / 5 + p.val / 9) (hy : y.val = k.val % 5 + p.val % 9) :
    aPad t (ix4 i c x y) = Spec.tap (cells t i) p k c := by
  rw [aPad_apply]
  unfold Spec.tap cells
  by_cases h : 2 ≤ x.val ∧ x.val < 11 ∧ 2 ≤ y.val ∧ y.val < 11
  · rw [dif_pos h, dif_pos (by omega)]
    congr 2
    · apply Fin.ext; show x.val - 2 = (9 * (p.val / 9 + k.val / 5 - 2) + (p.val % 9 + k.val % 5 - 2)) / 9; omega
    · apply Fin.ext; show y.val - 2 = (9 * (p.val / 9 + k.val / 5 - 2) + (p.val % 9 + k.val % 5 - 2)) % 9; omega
  · rw [dif_neg h, dif_neg (by omega)]

theorem cells_dw (t : FVec Ideal S4x192x9x9 .f32) (w : FVec Ideal S192x1x5x5 .f32) (i : Fin 4) :
    cells (aDw (aPad t) w) i
      = Spec.dw (fun c t => w (ix4 c 0 ⟨t.val / 5, by omega⟩ ⟨t.val % 5, by omega⟩)) (cells t i) := by
  funext p c
  have z : ∀ j, (broadcastInDim S4x192x9x9 ![] bcast_S_S4x192x9x9 (constant S_ .f32 0x00000000#32) :
      FVec Ideal S4x192x9x9 .f32) j = 0 := fun j => by pointwise
  unfold Spec.dw
  rw [Fin.sum_univ_tiles 5 5 rfl]
  simp only [Fin.sum_univ_five]
  unfold cells
  rw [aDw, aDw4_apply, aDw3_apply, aDw2_apply, aDw1_apply, aDw0_apply, z, zero_add]
  simp only [← add_assoc]
  repeat' refine Ideal.add_congr ?_ ?_
  all_goals exact Ideal.mul_congr (tap_pad t i c p _ _ _ (by simp) (by simp)) rfl

theorem cells_pw (t : FVec Ideal S4x192x9x9 .f32) (w : FVec Ideal S192x8x1x1 .f32) (i : Fin 4) :
    cells (aPw t w) i = Spec.pw (fun c j => w (ix4 c j 0 0)) (cells t i) := by
  funext p c
  simp only [cells, aPw_apply]
  rfl

/-- The cut into heads, as a table over cells and all 384 channels. -/
def heads (m : FVec Ideal S4x16x24x81 .f32) (i : Fin 4) (p : Fin 81) (c : Fin 384) : EReal :=
  m (ix4 i ⟨c.val / 24, by omega⟩ ⟨c.val % 24, by omega⟩ p)

theorem heads_multi (q g : FVec Ideal S4x192x9x9 .f32) (i : Fin 4) :
    heads (aMulti q g) i = Spec.multi (cells q i) (cells g i) := by
  funext p c
  have e : 24 * (c.val / 24) + c.val % 24 = c.val := by omega
  simp only [heads, aMulti_apply, e]
  rfl

theorem head_apply (m : FVec Ideal S4x16x24x81 .f32) (i : Fin 4) (h : Fin 16) (e : Fin 9) (p : Fin 81) :
    aHead m (aKeyVal m) (ix4 i h e p) = Spec.headOut (heads m i) h p e := by
  have k0 : ∀ d : ℕ, d < 24 → (24 * h.val + d) / 24 = h.val := fun d hd => by omega
  have k1 : ∀ d : ℕ, d < 24 → (24 * h.val + d) % 24 = d := fun d hd => by omega
  simp only [aHead_apply, aKeyVal_apply, Spec.headOut, Spec.keyVal, heads, Nat.add_assoc]
  refine Finset.sum_congr rfl fun d _ => ?_
  have hd := d.isLt
  congr 1
  · simp only [k0 d.val (by omega), k1 d.val (by omega)]
  · refine Finset.sum_congr rfl fun q _ => ?_
    congr 1
    · simp only [k0 (8 + d.val) (by omega), k1 (8 + d.val) (by omega)]
    · by_cases g : e.val < 8
      · simp only [dif_pos g, k0 (16 + e.val) (by omega), k1 (16 + e.val) (by omega)]
      · simp only [dif_neg g]

theorem out_apply (m : FVec Ideal S4x16x24x81 .f32) (a3 : FVec Ideal S640x32 .f32) (a4 : FVec Ideal S32 .f32)
    (a5 : FVec Ideal S32x32 .f32) (a6 : FVec Ideal S32 .f32) (a7 : FVec Ideal S192x32x1x1 .f32)
    (a8 : FVec Ideal S192x1x5x5 .f32) (a9 : FVec Ideal S192x8x1x1 .f32) (a10 : FVec Ideal S64x128x1x1 .f32)
    (a11 a12 : FVec Ideal S64 .f32) (i : Fin 4) (o : Fin 64) (p : Fin 81) :
    aNorm (aProj (aAtt (aHead m (aKeyVal m))) a10) a11 a12 (ix3 i o p)
      = Spec.denseOut (weights a3 a4 a5 a6 a7 a8 a9 a10 a11 a12) (heads m i) p o := by
  have e : 9 * (p.val / 9) + p.val % 9 = p.val := by omega
  simp only [aNorm_apply, aProj_apply, aAtt_apply, head_apply, e, Spec.denseOut, Spec.norm]
  rw [Consts.div_scale]
  rfl

/-- The program's dense part from a batch's slots on. -/
def aDense (t : FVec Ideal S4x9x9x640 .f32) (a3 : FVec Ideal S640x32 .f32) (a4 : FVec Ideal S32 .f32)
    (a5 : FVec Ideal S32x32 .f32) (a6 : FVec Ideal S32 .f32) (a7 : FVec Ideal S192x32x1x1 .f32)
    (a8 : FVec Ideal S192x1x5x5 .f32) (a9 : FVec Ideal S192x8x1x1 .f32) (a10 : FVec Ideal S64x128x1x1 .f32)
    (a11 a12 : FVec Ideal S64 .f32) : FVec Ideal S4x64x81 .f32 :=
  let q := aQkv (aHid2 (aHid1 t a3 a4) a5 a6) a7
  let m := aMulti q (aPw (aDw (aPad q) a8) a9)
  aNorm (aProj (aAtt (aHead m (aKeyVal m))) a10) a11 a12

/-- It is the dense part of the mathematics, on each batch. -/
theorem aDense_apply (t : FVec Ideal S4x9x9x640 .f32) (a3 : FVec Ideal S640x32 .f32) (a4 : FVec Ideal S32 .f32)
    (a5 : FVec Ideal S32x32 .f32) (a6 : FVec Ideal S32 .f32) (a7 : FVec Ideal S192x32x1x1 .f32)
    (a8 : FVec Ideal S192x1x5x5 .f32) (a9 : FVec Ideal S192x8x1x1 .f32) (a10 : FVec Ideal S64x128x1x1 .f32)
    (a11 a12 : FVec Ideal S64 .f32) (i : Fin 4) (o : Fin 64) (p : Fin 81) :
    aDense t a3 a4 a5 a6 a7 a8 a9 a10 a11 a12 (ix3 i o p)
      = Spec.dense (weights a3 a4 a5 a6 a7 a8 a9 a10 a11 a12) (cellsLast t i) p o := by
  unfold aDense
  rw [out_apply _ a3 a4 a5 a6 a7 a8 a9, heads_multi, cells_pw, cells_dw, cells_qkv t a3 a4 a5 a6 a7 a8 a9 a10 a11 a12]
  rfl

end Cert.RefVal

end
-- ==== Proof.BinStep.lean ====
/- One trip of the binning kernel's loop over blocks of 256 particles, written once for a block in any position, and
   the kernel's two result blocks as the thirty-two trips run one after the other. -/
module

public import proofs.«01_k».proof.Proof.RefDense
public import proofs.«01_k».proof.Proof.Gen.KernelIdeal.Frame

@[expose] public section

set_option maxRecDepth 16384

noncomputable section

namespace Cert.KernelIdeal.BinVal

open Cert.KernelIdeal Cert.KernelIdeal.Gen Idealize.ShloMosaic Idealize.ShloMosaic.TcCoe

variable {F : FTy → Type} [FloatOps F]

/-- A float word at every particle of the block. -/
abbrev wide (w : BitVec 32) : FVec F S1x256 .f32 := broadcast S1x256 (Scalar.ofBits .f32 w)

/-- One edge of the histogram: add one where the coordinate has reached it. -/
abbrev bump (v : FVec F S1x256 .f32) (w : BitVec 32) (a : FVec F S1x256 .f32) : FVec F S1x256 .f32 :=
  addf a (sitofp .f32 (extui 32 (cmpf .oge v (wide w)) natLt_1_32))

/-- The bin along the first coordinate: the edges reached, less one, held between 0 and 8. -/
def etaBin (v : FVec F S1x256 .f32) : FVec F S1x256 .f32 :=
  minimumf (wide 0x41000000#32) (maximumf (wide 0x00000000#32)
    (bump v 0x40A00000#32 <| bump v 0x4078E38E#32 <| bump v 0x4031C71C#32 <| bump v 0x3FD55555#32 <|
     bump v 0x3F0E38E4#32 <| bump v 0xBF0E38E4#32 <| bump v 0xBFD55555#32 <| bump v 0xC031C71C#32 <|
     bump v 0xC078E38E#32 <| bump v 0xC0A00000#32 <| wide 0xBF800000#32))

/-- The bin along the second coordinate. -/
def phiBin (v : FVec F S1x256 .f32) : FVec F S1x256 .f32 :=
  minimumf (wide 0x41000000#32) (maximumf (wide 0x00000000#32)
    (bump v 0x40490FDB#32 <| bump v 0x401C61AA#32 <| bump v 0x3FDF66F3#32 <| bump v 0x3F860A92#32 <|
     bump v 0x3EB2B8C2#32 <| bump v 0xBEB2B8C2#32 <| bump v 0xBF860A92#32 <| bump v 0xBFDF66F3#32 <|
     bump v 0xC01C61AA#32 <| bump v 0xC0490FDB#32 <| wide 0xBF800000#32))

/-- The particle's bin of the 81. -/
def binOf (e p : FVec F S1x256 .f32) : FVec F S1x256 .f32 :=
  addf (mulf (etaBin e) (wide 0x41100000#32)) (phiBin p)

/-- One row per bin, one column per particle: one where the particle is in the bin. -/
def oneHot (b : FVec F S1x256 .f32) : FVec F S81x256 .f32 :=
  sitofp .f32 (extui 32 (cmpf .oeq (sitofp .f32 (iota .tc S81x256 32 [0] iota_S81x256_d0_w32) : FVec F S81x256 .f32)
    (broadcastTo S81x256 b broadcasts_S1x256_S81x256)) natLt_1_32)

/-- The same with the masked particles' columns cleared. -/
def oneHotM (b k : FVec F S1x256 .f32) : FVec F S81x256 .f32 :=
  mulf (oneHot b) (broadcastTo S81x256 k broadcasts_S1x256_S81x256)

/-- The number of earlier unmasked particles in the particle's own bin, from the counts before the block. -/
def rankOf (tri : Vec F S256x256 .f32) (cnt : FVec F S81x1 .f32) (b k : FVec F S1x256 .f32) : FVec F S1x256 .f32 :=
  shapeCast S1x256 (multiReduction .add [0] S256
    (mulf (oneHot b) (addf (matmul dot_S81x256_S256x256_S81x256_1_0_0_1_n_n none (oneHotM b k) tri
      (constant S81x256 .f32 0x00000000#32)) (broadcastTo S81x256 cnt broadcasts_S81x1_S81x256)))
    0x00000000#32 reduces_S81x256_S256 (.inl rfl) rfl) shapeCasts_S256_S1x256

/-- One where the particle is kept: unmasked, and among the first ten of its bin. -/
def keepOf (k r : FVec F S1x256 .f32) : FVec F S1x256 .f32 :=
  mulf k (sitofp .f32 (extui 32 (cmpf .olt r (wide 0x41200000#32)) natLt_1_32))

/-- The slot of the 810 the particle fills, minus one for a particle that is not kept. -/
def slotOf (b kp r : FVec F S1x256 .f32) : FVec F S1x256 .f32 :=
  subf (mulf kp (addf (mulf r (wide 0x42A20000#32)) b)) (subf (wide 0x3F800000#32) kp)

/-- What the block adds to the 810 slots: a one-hot product with its particles' features. -/
def fillOf (s : FVec F S1x256 .f32) (x : Vec F S1x256x64 .f32) : FVec F S810x64 .f32 :=
  matmul dot_S810x256_S256x64_S810x64_1_0_0_1_n_n none
    (sitofp .f32 (extui 32 (cmpf .oeq (sitofp .f32 (iota .tc S810x256 32 [0] iota_S810x256_d0_w32) : FVec F S810x256 .f32)
      (broadcastTo S810x256 s broadcasts_S1x256_S810x256)) natLt_1_32))
    (shapeCast S256x64 x shapeCasts_S1x256x64_S256x64) (constant S810x64 .f32 0x00000000#32)

/-- The counts of the bins after the block. -/
def countOf (cnt : FVec F S81x1 .f32) (b k : FVec F S1x256 .f32) : FVec F S81x1 .f32 :=
  addf cnt (shapeCast S81x1 (multiReduction .add [1] S81 (oneHotM b k) 0x00000000#32 reduces_S81x256_S81 (.inl rfl) rfl)
    shapeCasts_S81_S81x1)

/-- The particle's code: its bin when kept, 81 otherwise. -/
def codeOf (b kp : FVec F S1x256 .f32) : FVec F S1x256 .f32 :=
  addf (mulf kp b) (mulf (subf (wide 0x3F800000#32) kp) (wide 0x42A20000#32))

/-- The `n`th block of 256 particles lies inside a row of 8192. -/
theorem inbRow (n : ℕ) (h : n < 32) : ∀ a, (![0, 0, 256 * n] : Fin 3 → Nat) a + S1x1x256.size a ≤ S1x1x8192.size a
  | ⟨0, _⟩ => by show 0 + 1 ≤ 1; omega
  | ⟨1, _⟩ => by show 0 + 1 ≤ 1; omega
  | ⟨2, _⟩ => by show 256 * n + 256 ≤ 8192; omega

/-- The `n`th block of 256 particles lies inside the features. -/
theorem inbFeat (n : ℕ) (h : n < 32) : ∀ a, (![0, 256 * n, 0] : Fin 3 → Nat) a + S1x256x64.size a ≤ S1x8192x64.size a
  | ⟨0, _⟩ => by show 0 + 1 ≤ 1; omega
  | ⟨1, _⟩ => by show 256 * n + 256 ≤ 8192; omega
  | ⟨2, _⟩ => by show 0 + 64 ≤ 64; omega

/-- The `n`th block of a row of particles. -/
abbrev rowRect (n : ℕ) (h : n < 32) : Rect S1x1x8192 :=
  Rect.unit (s := S1x1x8192) ![0, 0, 256 * n] S1x1x256.size (inbRow n h)

/-- The `n`th block of the particles' features. -/
abbrev featRect (n : ℕ) (h : n < 32) : Rect S1x8192x64 :=
  Rect.unit (s := S1x8192x64) ![0, 256 * n, 0] S1x256x64.size (inbFeat n h)

/-- The `n`th block of a row, laid out as one row of 256. -/
def rowAt (x : Vec F S1x1x8192 .f32) (n : ℕ) (h : n < 32) : FVec F S1x256 .f32 :=
  shapeCast S1x256 (View.ld x (rowRect n h) : Vec F S1x1x256 .f32) shapeCasts_S1x1x256_S1x256

section Fold

variable (x0 x1 x2 : Vec F S1x1x8192 .f32) (x3 : Vec F S1x8192x64 .f32) (x4 : Vec F S256x256 .f32)

/-- The bins of the `n`th block's particles. -/
def binAt (n : ℕ) (h : n < 32) : FVec F S1x256 .f32 := binOf (rowAt x0 n h) (rowAt x1 n h)

/-- The counts of the bins after `n` blocks. -/
def cntAt : (n : ℕ) → n ≤ 32 → FVec F S81x1 .f32
  | 0, _ => broadcast S81x1 (Scalar.ofBits .f32 0x00000000#32)
  | n + 1, h => countOf (cntAt n (Nat.le_of_succ_le h)) (binAt x0 x1 n h) (rowAt x2 n h)

/-- The ranks of the `n`th block's particles in their bins. -/
def rankAt (n : ℕ) (h : n < 32) : FVec F S1x256 .f32 :=
  rankOf (shapeCast S256x256 (View.ld x4 r0_0 : Vec F S256x256 .f32) shapeCasts_S256x256_S256x256) (cntAt x0 x1 x2 n (Nat.le_of_lt h)) (binAt x0 x1 n h) (rowAt x2 n h)

/-- Which of the `n`th block's particles are kept. -/
def keepAt (n : ℕ) (h : n < 32) : FVec F S1x256 .f32 := keepOf (rowAt x2 n h) (rankAt x0 x1 x2 x4 n h)

/-- The slots after `n` blocks. -/
def accAt : (n : ℕ) → n ≤ 32 → FVec F S810x64 .f32
  | 0, _ => broadcast S810x64 (Scalar.ofBits .f32 0x00000000#32)
  | n + 1, h => addf (accAt n (Nat.le_of_succ_le h))
      (fillOf (slotOf (binAt x0 x1 n h) (keepAt x0 x1 x2 x4 n h) (rankAt x0 x1 x2 x4 n h))
        (View.ld x3 (featRect n h) : Vec F S1x256x64 .f32))

/-- The codes of the `n`th block's particles, as the block the kernel stores. -/
def codeAt (n : ℕ) (h : n < 32) : FVec F S1x1x256 .f32 :=
  shapeCast S1x1x256 (codeOf (binAt x0 x1 n h) (keepAt x0 x1 x2 x4 n h)) shapeCasts_S1x256_S1x1x256

/-- The blocks of codes the first `n` trips store, the last one first. -/
def codesAt : (n : ℕ) → n ≤ 32 → List (View.Piece (Elt F) S1x1x8192 .f32)
  | 0, _ => []
  | n + 1, h => ⟨rowRect n h, codeAt x0 x1 x2 x4 n h⟩ :: codesAt n (Nat.le_of_succ_le h)

/-- The kernel's block of slots is what thirty-two trips add up. -/
theorem out5_eq : out0_5 x0 x1 x2 x3 x4 =
    View.canon [⟨r0_65, shapeCast S1x810x64 (accAt x0 x1 x2 x3 x4 32 le_rfl) shapeCasts_S810x64_S1x810x64⟩] := by
  rfl

/-- The kernel's block of codes is the thirty-two blocks stored. -/
theorem out6_eq : out0_6 x0 x1 x2 x3 x4 = View.canon (codesAt x0 x1 x2 x4 32 le_rfl) := by
  rfl

end Fold

end Cert.KernelIdeal.BinVal

end
-- ==== Proof.BinIdeal.lean ====
/- The binning kernel's trips at an index, over the extended reals, and its two result blocks as the slots and codes of
   the mathematics. -/
module

public import proofs.«01_k».proof.Proof.BinStep

@[expose] public section

set_option maxRecDepth 16384

noncomputable section

namespace Cert.KernelIdeal.BinVal

open Cert.KernelIdeal Cert.KernelIdeal.Gen Idealize.ShloMosaic Idealize.ShloMosaic.TcCoe

/-- The words of the first coordinate's ten edges. -/
def etaWord : Fin 10 → BitVec 32 := ![0xC0A00000#32, 0xC078E38E#32, 0xC031C71C#32, 0xBFD55555#32, 0xBF0E38E4#32,
  0x3F0E38E4#32, 0x3FD55555#32, 0x4031C71C#32, 0x4078E38E#32, 0x40A00000#32]

/-- The words of the second coordinate's ten edges. -/
def phiWord : Fin 10 → BitVec 32 := ![0xC0490FDB#32, 0xC01C61AA#32, 0xBFDF66F3#32, 0xBF860A92#32, 0xBEB2B8C2#32,
  0x3EB2B8C2#32, 0x3F860A92#32, 0x3FDF66F3#32, 0x401C61AA#32, 0x40490FDB#32]

/-- The edges as values. -/
def edge (w : Fin 10 → BitVec 32) (i : Fin 10) : EReal := Ideal.ofBits .f32 (w i)

/-- Ten steps of one from minus one count the edges reached, less one. -/
theorem bumps (P : Fin 10 → Prop) [DecidablePred P] :
    ((-1 : ℝ) : EReal) + (if P 0 then 1 else 0) + (if P 1 then 1 else 0) + (if P 2 then 1 else 0) + (if P 3 then 1 else 0)
      + (if P 4 then 1 else 0) + (if P 5 then 1 else 0) + (if P 6 then 1 else 0) + (if P 7 then 1 else 0)
      + (if P 8 then 1 else 0) + (if P 9 then 1 else 0)
      = ((((Finset.univ.filter P).card : ℝ) - 1 : ℝ) : EReal) := by
  have e : ∀ i, (if P i then (1 : EReal) else 0) = (((if P i then 1 else 0 : ℕ) : ℝ) : EReal) := fun i => by
    by_cases h : P i <;> simp [h]
  simp only [e, ← EReal.coe_add]
  rw [Finset.card_filter]
  congr 1
  simp only [Fin.sum_univ_succ, Fin.sum_univ_zero]
  push_cast
  ring

/-- A count less one, held between zero and eight. -/
theorem clip (c : ℕ) : min ((8 : ℝ) : EReal) (max 0 (((c : ℝ) - 1 : ℝ) : EReal)) = ((min 8 (c - 1) : ℕ) : EReal) := by
  have z : (0 : EReal) = ((0 : ℝ) : EReal) := rfl
  rw [z, ← EReal.coe_strictMono.monotone.map_max, ← EReal.coe_strictMono.monotone.map_min, ← EReal.coe_natCast]
  congr 1
  rcases Nat.eq_zero_or_pos c with h | h
  · subst h; simp
  · obtain ⟨d, rfl⟩ : ∃ d, c = d + 1 := ⟨c - 1, by omega⟩
    push_cast
    rw [add_sub_cancel_right, max_eq_right (Nat.cast_nonneg d)]

theorem etaBin_apply (v : FVec Ideal S1x256 .f32) (j : Fin 256) :
    etaBin v (ix2 0 j) = ((Spec.edgeBin (edge etaWord) (v (ix2 0 j)) : ℕ) : EReal) := by
  unfold Spec.edgeBin
  rw [← clip, ← bumps]
  pointwise [etaBin, bump, wide]
  simp only [Words.sitofp_bool]
  rw [Consts.eight, Consts.negOne]
  rfl

theorem phiBin_apply (v : FVec Ideal S1x256 .f32) (j : Fin 256) :
    phiBin v (ix2 0 j) = ((Spec.edgeBin (edge phiWord) (v (ix2 0 j)) : ℕ) : EReal) := by
  unfold Spec.edgeBin
  rw [← clip, ← bumps]
  pointwise [phiBin, bump, wide]
  simp only [Words.sitofp_bool]
  rw [Consts.eight, Consts.negOne]
  rfl

theorem binOf_apply (e p : FVec Ideal S1x256 .f32) (j : Fin 256) :
    binOf e p (ix2 0 j) = ((Spec.binId (edge etaWord) (edge phiWord) (e (ix2 0 j)) (p (ix2 0 j)) : ℕ) : EReal) := by
  have r : binOf e p (ix2 0 j) = etaBin e (ix2 0 j) * Ideal.ofBits .f32 0x41100000#32 + phiBin p (ix2 0 j) := by
    unfold binOf
    generalize etaBin e = u
    generalize phiBin p = v
    pointwise [wide]
  rw [r, etaBin_apply, phiBin_apply, Consts.nine]
  unfold Spec.binId
  rw [Nat.cast_add, EReal.natCast_mul]
  rfl

/-! ## One-hot columns -/

theorem oneHot_apply (b : FVec Ideal S1x256 .f32) (q : Fin 81) (j : Fin 256) (n : ℕ) (hb : b (ix2 0 j) = (n : EReal)) :
    oneHot b (ix2 q j) = if q.val = n then 1 else 0 := by
  have e : oneHot b (ix2 q j) = if ((q.val : ℝ) : EReal) = b (ix2 0 j) then 1 else 0 := by
    pointwise [oneHot]
    rw [Words.sitofp_bool, Words.sitofp_nat _ (by omega)]
  rw [e, hb, EReal.coe_natCast]
  simp only [Nat.cast_inj]

theorem oneHotM_apply (b k : FVec Ideal S1x256 .f32) (q : Fin 81) (j : Fin 256) :
    oneHotM b k (ix2 q j) = oneHot b (ix2 q j) * k (ix2 0 j) := by
  unfold oneHotM
  generalize oneHot b = u
  pointwise

theorem rankOf_apply (tri : Vec Ideal S256x256 .f32) (cnt : FVec Ideal S81x1 .f32) (b k : FVec Ideal S1x256 .f32)
    (j : Fin 256) : rankOf tri cnt b k (ix2 0 j) = ∑ q : Fin 81, oneHot b (ix2 q j) *
      (∑ m : Fin 256, oneHotM b k (ix2 q m) * tri (ix2 m j) + cnt (ix2 q 0)) := by
  unfold rankOf
  generalize oneHotM b k = v
  generalize oneHot b = u
  pointwise

theorem keepOf_apply (k r : FVec Ideal S1x256 .f32) (j : Fin 256) : keepOf k r (ix2 0 j)
    = k (ix2 0 j) * if r (ix2 0 j) < ((10 : ℝ) : EReal) then 1 else 0 := by
  pointwise [keepOf, wide]
  rw [Words.sitofp_bool, Consts.ten]

theorem slotOf_apply (b kp r : FVec Ideal S1x256 .f32) (j : Fin 256) : slotOf b kp r (ix2 0 j)
    = kp (ix2 0 j) * (r (ix2 0 j) * ((81 : ℝ) : EReal) + b (ix2 0 j)) - (1 - kp (ix2 0 j)) := by
  pointwise [slotOf, wide]
  rw [Consts.eightyOne]

theorem fillOf_apply (s : FVec Ideal S1x256 .f32) (x : Vec Ideal S1x256x64 .f32) (g : Fin 810) (f : Fin 64) :
    fillOf s x (ix2 g f) = ∑ m : Fin 256, (if ((g.val : ℝ) : EReal) = s (ix2 0 m) then 1 else 0) * x (ix3 0 m f) := by
  pointwise [fillOf]
  refine Finset.sum_congr rfl fun m _ => ?_
  rw [Words.sitofp_bool, Words.sitofp_nat _ (by omega)]

theorem countOf_apply (cnt : FVec Ideal S81x1 .f32) (b k : FVec Ideal S1x256 .f32) (q : Fin 81) :
    countOf cnt b k (ix2 q 0) = cnt (ix2 q 0) + ∑ m : Fin 256, oneHotM b k (ix2 q m) := by
  unfold countOf
  generalize oneHotM b k = v
  pointwise

theorem codeOf_apply (b kp : FVec Ideal S1x256 .f32) (j : Fin 256) : codeOf b kp (ix2 0 j)
    = kp (ix2 0 j) * b (ix2 0 j) + (1 - kp (ix2 0 j)) * ((81 : ℝ) : EReal) := by
  pointwise [codeOf, wide]
  rw [Consts.eightyOne]

theorem rowAt_apply (x : Vec Ideal S1x1x8192 .f32) (n : ℕ) (h : n < 32) (j : Fin 256) :
    rowAt x n h (ix2 0 j) = x (ix3 0 0 ⟨256 * n + j.val, by omega⟩) := by
  have e : (View.ld x (rowRect n h) : Vec Ideal S1x1x256 .f32) (ix3 0 0 j) = x (ix3 0 0 ⟨256 * n + j.val, by omega⟩) := by
    refine congrArg x ?_
    funext a; apply Fin.ext
    match a with
    | ⟨0, _⟩ => rfl
    | ⟨1, _⟩ => rfl
    | ⟨2, _⟩ => show 256 * n + 1 * j.val = 256 * n + j.val; omega
  rw [← e]
  unfold rowAt
  generalize (View.ld x (rowRect n h) : Vec Ideal S1x1x256 .f32) = v
  pointwise

theorem feat_apply (x : Vec Ideal S1x8192x64 .f32) (n : ℕ) (h : n < 32) (j : Fin 256) (f : Fin 64) :
    (View.ld x (featRect n h) : Vec Ideal S1x256x64 .f32) (ix3 0 j f) = x (ix3 0 ⟨256 * n + j.val, by omega⟩ f) := by
  refine congrArg x ?_
  funext a; apply Fin.ext
  match a with
  | ⟨0, _⟩ => rfl
  | ⟨1, _⟩ => show 256 * n + 1 * j.val = 256 * n + j.val; omega
  | ⟨2, _⟩ => show 0 + 1 * f.val = f.val; omega

/-! ## The trips one after the other -/

section Counting

variable (bin : Fin 8192 → ℕ) (msk : Fin 8192 → Bool)

/-- One for an unmasked particle in bin `q`, zero for any other, over all natural numbers. -/
def hit (q m : ℕ) : ℕ := if h : m < 8192 then (if msk ⟨m, h⟩ = true ∧ bin ⟨m, h⟩ = q then 1 else 0) else 0

/-- The rank counts the earlier hits in the particle's own bin. -/
theorem rank_eq (n : Fin 8192) : Spec.rank bin msk n = ∑ m ∈ Finset.range n.val, hit bin msk (bin n) m := by
  unfold Spec.rank
  rw [Finset.card_filter, Finset.sum_fin_eq_sum_range]
  have e : Finset.range n.val = (Finset.range 8192).filter (fun m => m < n.val) := by
    ext m; simp only [Finset.mem_range, Finset.mem_filter]; omega
  rw [e, Finset.sum_filter]
  refine Finset.sum_congr rfl fun m hm => ?_
  have hm' : m < 8192 := Finset.mem_range.mp hm
  unfold hit
  rw [dif_pos hm', dif_pos hm']
  by_cases h : m < n.val
  · have h' : (⟨m, hm'⟩ : Fin 8192) < n := h
    simp only [h, h', true_and, if_true]
  · have h' : ¬ (⟨m, hm'⟩ : Fin 8192) < n := h
    simp only [h, h', false_and, if_false]

end Counting

/-- Casting a sum over a block into the extended reals. -/
theorem cast_sum {n : ℕ} (f : Fin n → ℕ) : ∑ m, ((f m : ℕ) : EReal) = ((∑ m, f m : ℕ) : EReal) :=
  (Nat.cast_sum _ _).symm

/-- A block's sum over the entries before one of them. -/
theorem sum_before (g : ℕ → ℕ) (j : Fin 256) :
    ∑ m : Fin 256, (if m.val < j.val then g m.val else 0) = ∑ m ∈ Finset.range j.val, g m := by
  rw [Fin.sum_univ_eq_sum_range (fun m => if m < j.val then g m else 0) 256, ← Finset.sum_filter]
  congr 1
  ext m
  simp only [Finset.mem_range, Finset.mem_filter]
  omega

/-- What the binning call's input blocks hold. -/
structure Reads (eta phi : Fin 8192 → EReal) (msk : Fin 8192 → Bool) (xx : Fin 8192 → Fin 64 → EReal)
    (x0 x1 x2 : Vec Ideal S1x1x8192 .f32) (x3 : Vec Ideal S1x8192x64 .f32) (x4 : Vec Ideal S256x256 .f32) : Prop where
  eta : ∀ n, x0 (ix3 0 0 n) = eta n
  phi : ∀ n, x1 (ix3 0 0 n) = phi n
  msk : ∀ n, x2 (ix3 0 0 n) = if msk n = true then 1 else 0
  feat : ∀ n f, x3 (ix3 0 n f) = xx n f
  tri : ∀ m j : Fin 256, x4 (ix2 m j) = if m.val < j.val then 1 else 0

section Trips

variable {eta phi : Fin 8192 → EReal} {msk : Fin 8192 → Bool} {xx : Fin 8192 → Fin 64 → EReal}
  {x0 x1 x2 : Vec Ideal S1x1x8192 .f32} {x3 : Vec Ideal S1x8192x64 .f32} {x4 : Vec Ideal S256x256 .f32}

/-- The particles' bins. -/
def bins (eta phi : Fin 8192 → EReal) (n : Fin 8192) : ℕ := Spec.binId (edge etaWord) (edge phiWord) (eta n) (phi n)

theorem binAt_apply (f : Reads eta phi msk xx x0 x1 x2 x3 x4) (n : ℕ) (h : n < 32) (j : Fin 256) :
    binAt x0 x1 n h (ix2 0 j) = ((bins eta phi ⟨256 * n + j.val, by omega⟩ : ℕ) : EReal) := by
  rw [binAt, binOf_apply, rowAt_apply, rowAt_apply, f.eta, f.phi]
  rfl

theorem hot_apply (f : Reads eta phi msk xx x0 x1 x2 x3 x4) (n : ℕ) (h : n < 32) (q : Fin 81) (m : Fin 256) :
    oneHotM (binAt x0 x1 n h) (rowAt x2 n h) (ix2 q m)
      = ((hit (bins eta phi) msk q.val (256 * n + m.val) : ℕ) : EReal) := by
  rw [oneHotM_apply, oneHot_apply _ q m _ (binAt_apply f n h m), rowAt_apply, f.msk]
  unfold hit
  rw [dif_pos (by omega)]
  by_cases h1 : q.val = bins eta phi ⟨256 * n + m.val, by omega⟩
  · by_cases h2 : msk ⟨256 * n + m.val, by omega⟩ = true
    · rw [if_pos h1, if_pos h2, if_pos ⟨h2, h1.symm⟩]; simp
    · rw [if_pos h1, if_neg h2, if_neg (fun c => h2 c.1)]; simp
  · rw [if_neg h1, zero_mul, if_neg (fun c => h1 c.2.symm), Nat.cast_zero]

theorem cntAt_apply (f : Reads eta phi msk xx x0 x1 x2 x3 x4) (n : ℕ) (h : n ≤ 32) (q : Fin 81) :
    cntAt x0 x1 x2 n h (ix2 q 0)
      = ((∑ m ∈ Finset.range (256 * n), hit (bins eta phi) msk q.val m : ℕ) : EReal) := by
  induction n with
  | zero => rw [cntAt]; pointwise; simp
  | succ n ih =>
    rw [cntAt, countOf_apply, ih (by omega)]
    simp only [hot_apply f]
    rw [cast_sum, ← Nat.cast_add, show 256 * (n + 1) = 256 * n + 256 by omega, Finset.sum_range_add,
      Finset.sum_range (fun x => hit (bins eta phi) msk q.val (256 * n + x))]

/-- The triangle is read whole. -/
theorem tri_read (x : Vec Ideal S256x256 .f32) :
    shapeCast S256x256 (View.ld x r0_0 : Vec Ideal S256x256 .f32) shapeCasts_S256x256_S256x256 = x :=
  (shapeCast_id _ _).trans (View.ld_unit_zero (S := S256x256) (by
    funext a
    match a with
    | ⟨0, _⟩ => rfl
    | ⟨1, _⟩ => rfl) _ _)

theorem rankAt_apply (f : Reads eta phi msk xx x0 x1 x2 x3 x4) (n : ℕ) (h : n < 32) (j : Fin 256) :
    rankAt x0 x1 x2 x4 n h (ix2 0 j)
      = ((Spec.rank (bins eta phi) msk ⟨256 * n + j.val, by omega⟩ : ℕ) : EReal) := by
  have hb : bins eta phi ⟨256 * n + j.val, by omega⟩ < 81 := Spec.binId_lt _ _ _ _
  rw [rankAt, tri_read, rankOf_apply, Finset.sum_eq_single ⟨_, hb⟩]
  · rw [oneHot_apply _ _ j _ (binAt_apply f n h j), if_pos rfl, one_mul, cntAt_apply f, rank_eq]
    have e : ∀ m : Fin 256, oneHotM (binAt x0 x1 n h) (rowAt x2 n h) (ix2 ⟨_, hb⟩ m) * x4 (ix2 m j)
        = ((if m.val < j.val then hit (bins eta phi) msk (bins eta phi ⟨256 * n + j.val, by omega⟩) (256 * n + m.val)
            else 0 : ℕ) : EReal) := fun m => by
      rw [hot_apply f, f.tri]
      by_cases hm : m.val < j.val
      · rw [if_pos hm, if_pos hm, mul_one]
      · rw [if_neg hm, if_neg hm, mul_zero, Nat.cast_zero]
    simp only [e]
    rw [cast_sum, ← Nat.cast_add, add_comm,
      sum_before (fun m => hit (bins eta phi) msk (bins eta phi ⟨256 * n + j.val, by omega⟩) (256 * n + m)) j]
    exact congrArg Nat.cast (Finset.sum_range_add _ _ _).symm
  · intro q _ hq
    rw [oneHot_apply _ _ j _ (binAt_apply f n h j), if_neg (fun c => hq (Fin.ext c)), zero_mul]
  · intro hc; exact absurd (Finset.mem_univ _) hc

/-- One for a kept particle, zero for any other. -/
theorem keepAt_apply (f : Reads eta phi msk xx x0 x1 x2 x3 x4) (n : ℕ) (h : n < 32) (j : Fin 256) :
    keepAt x0 x1 x2 x4 n h (ix2 0 j)
      = if Spec.keep (bins eta phi) msk ⟨256 * n + j.val, by omega⟩ = true then 1 else 0 := by
  rw [keepAt, keepOf_apply, rankAt_apply f, rowAt_apply, f.msk]
  generalize (⟨256 * n + j.val, by omega⟩ : Fin 8192) = N
  have e : ((Spec.rank (bins eta phi) msk N : ℕ) : EReal) < ((10 : ℝ) : EReal) ↔ Spec.rank (bins eta phi) msk N < 10 := by
    rw [← EReal.coe_natCast, EReal.coe_lt_coe_iff]
    exact_mod_cast Iff.rfl
  simp only [e, Spec.keep, Bool.and_eq_true, decide_eq_true_eq]
  by_cases h1 : msk N = true
  · by_cases h2 : Spec.rank (bins eta phi) msk N < 10
    · rw [if_pos h1, if_pos h2, if_pos ⟨h1, h2⟩, one_mul]
    · rw [if_neg h2, mul_zero, if_neg (fun c => h2 c.2)]
  · rw [if_neg h1, zero_mul, if_neg (fun c => h1 c.1)]

/-- The code of a particle: its bin when kept, 81 otherwise. -/
theorem code_apply (f : Reads eta phi msk xx x0 x1 x2 x3 x4) (n : ℕ) (h : n < 32) (j : Fin 256) :
    codeOf (binAt x0 x1 n h) (keepAt x0 x1 x2 x4 n h) (ix2 0 j)
      = (((if Spec.keep (bins eta phi) msk ⟨256 * n + j.val, by omega⟩ = true
          then bins eta phi ⟨256 * n + j.val, by omega⟩ else 81 : ℕ) : ℝ) : EReal) := by
  rw [codeOf_apply, binAt_apply f, keepAt_apply f]
  generalize (⟨256 * n + j.val, by omega⟩ : Fin 8192) = N
  have s0 : (1 : EReal) - 1 = 0 := by rw [← EReal.coe_one, ← EReal.coe_sub]; simp
  by_cases h1 : Spec.keep (bins eta phi) msk N = true
  · rw [if_pos h1, if_pos h1, s0, one_mul, zero_mul, add_zero, EReal.coe_natCast]
  · rw [if_neg h1, if_neg h1, zero_mul, sub_zero, one_mul, zero_add]
    norm_num

/-- Whether a particle's slot number is a given one. -/
theorem slot_apply (f : Reads eta phi msk xx x0 x1 x2 x3 x4) (n : ℕ) (h : n < 32) (j : Fin 256) (r i : ℕ) (hi : i < 81) :
    (((81 * r + i : ℕ) : ℝ) : EReal)
        = slotOf (binAt x0 x1 n h) (keepAt x0 x1 x2 x4 n h) (rankAt x0 x1 x2 x4 n h) (ix2 0 j)
      ↔ Spec.keep (bins eta phi) msk ⟨256 * n + j.val, by omega⟩ = true ∧ bins eta phi ⟨256 * n + j.val, by omega⟩ = i
        ∧ Spec.rank (bins eta phi) msk ⟨256 * n + j.val, by omega⟩ = r := by
  rw [slotOf_apply, binAt_apply f, keepAt_apply f, rankAt_apply f]
  have hb : bins eta phi ⟨256 * n + j.val, by omega⟩ < 81 := Spec.binId_lt _ _ _ _
  generalize (⟨256 * n + j.val, by omega⟩ : Fin 8192) = N at hb ⊢
  have s0 : (1 : EReal) - 1 = 0 := by rw [← EReal.coe_one, ← EReal.coe_sub]; simp
  by_cases h1 : Spec.keep (bins eta phi) msk N = true
  · rw [if_pos h1, s0, sub_zero, one_mul, ← EReal.coe_natCast, ← EReal.coe_natCast, ← EReal.coe_mul, ← EReal.coe_add,
      EReal.coe_eq_coe_iff]
    have e : ((81 * r + i : ℕ) : ℝ) = (Spec.rank (bins eta phi) msk N : ℝ) * 81 + (bins eta phi N : ℝ)
        ↔ 81 * r + i = Spec.rank (bins eta phi) msk N * 81 + bins eta phi N := by
      exact_mod_cast Iff.rfl
    rw [e]
    constructor
    · intro c; exact ⟨h1, by omega, by omega⟩
    · rintro ⟨_, c1, c2⟩; omega
  · rw [if_neg h1, zero_mul, sub_zero]
    constructor
    · intro c
      have c' : (((81 * r + i : ℕ) : ℝ) : EReal) = ((-1 : ℝ) : EReal) := by
        rw [c, zero_sub, EReal.coe_neg, EReal.coe_one]
      rw [EReal.coe_eq_coe_iff] at c'
      have : (0 : ℝ) ≤ ((81 * r + i : ℕ) : ℝ) := Nat.cast_nonneg _
      linarith
    · rintro ⟨c, _⟩; exact absurd c h1

theorem accAt_apply (f : Reads eta phi msk xx x0 x1 x2 x3 x4) (n : ℕ) (h : n ≤ 32) (r i : ℕ) (hr : r < 10) (hi : i < 81)
    (o : Fin 64) : accAt x0 x1 x2 x3 x4 n h (ix2 ⟨81 * r + i, by omega⟩ o)
      = ∑ b : Fin n, ∑ m : Fin 256, if Spec.keep (bins eta phi) msk ⟨256 * b.val + m.val, by omega⟩ = true ∧
          bins eta phi ⟨256 * b.val + m.val, by omega⟩ = i ∧
          Spec.rank (bins eta phi) msk ⟨256 * b.val + m.val, by omega⟩ = r
        then xx ⟨256 * b.val + m.val, by omega⟩ o else 0 := by
  induction n with
  | zero => rw [accAt]; pointwise; simp
  | succ n ih =>
    rw [Fin.sum_univ_castSucc]
    simp only [Fin.val_castSucc, Fin.val_last]
    rw [← ih (by omega), accAt]
    show accAt x0 x1 x2 x3 x4 n _ _ + fillOf _ _ _ = _
    rw [fillOf_apply]
    refine congrArg (_ + ·) (Finset.sum_congr rfl fun m _ => ?_)
    rw [feat_apply, f.feat]
    simp only [slot_apply f n h m r i hi]
    rw [ite_mul, one_mul, zero_mul]

/-- The slots after all trips are the mathematics' slots, laid out slot by slot. -/
theorem acc_apply (f : Reads eta phi msk xx x0 x1 x2 x3 x4) (r i : ℕ) (hr : r < 10) (hi : i < 81) (o : Fin 64) :
    out0_5 x0 x1 x2 x3 x4 (ix3 0 ⟨81 * r + i, by omega⟩ o) = Spec.slots (bins eta phi) msk xx i r o := by
  have e := accAt_apply f 32 le_rfl r i hr hi o
  rw [out5_eq, View.canon_unit_zero (by
    funext a
    match a with
    | ⟨0, _⟩ => rfl
    | ⟨1, _⟩ => rfl
    | ⟨2, _⟩ => rfl)]
  have e2 : (shapeCast S1x810x64 (accAt x0 x1 x2 x3 x4 32 le_rfl) shapeCasts_S810x64_S1x810x64 : FVec Ideal S1x810x64 .f32)
      (ix3 0 ⟨81 * r + i, by omega⟩ o) = accAt x0 x1 x2 x3 x4 32 le_rfl (ix2 ⟨81 * r + i, by omega⟩ o) := by
    generalize accAt x0 x1 x2 x3 x4 32 le_rfl = v
    pointwise
  refine e2.trans (e.trans ?_)
  unfold Spec.slots
  rw [Fin.sum_univ_tiles 32 256 rfl]
  simp only [Nat.mul_comm 256]

theorem codes_apply (f : Reads eta phi msk xx x0 x1 x2 x3 x4) (n : ℕ) (h : n ≤ 32) (i : Fin 8192) (hi : i.val < 256 * n) :
    View.canon (codesAt x0 x1 x2 x4 n h) (ix3 0 0 i)
      = (((if Spec.keep (bins eta phi) msk i = true then bins eta phi i else 81 : ℕ) : ℝ) : EReal) := by
  induction n with
  | zero => omega
  | succ n ih =>
    rw [codesAt]
    by_cases hn : i.val < 256 * n
    · rw [View.canon_cons_of_not_mem]
      · exact ih (by omega) hn
      · intro hc
        have := (Rect.mem_set_unit (inb := inbRow n h)).mp hc (2 : Fin 3)
        have h0 : 256 * n ≤ i.val := this.1
        omega
    · have e : (ix3 0 0 i : S1x1x8192.Idx) = (rowRect n h).emb (ix3 0 0 ⟨i.val - 256 * n, by omega⟩) := by
        funext a; apply Fin.ext
        match a with
        | ⟨0, _⟩ => rfl
        | ⟨1, _⟩ => rfl
        | ⟨2, _⟩ => show i.val = 256 * n + 1 * (i.val - 256 * n); omega
      rw [e, View.canon_cons_emb]
      have c := code_apply f n h ⟨i.val - 256 * n, by omega⟩
      have ei : (⟨256 * n + (i.val - 256 * n), by omega⟩ : Fin 8192) = i := Fin.ext (by show 256 * n + (i.val - 256 * n) = i.val; omega)
      simp only [ei] at c
      rw [← c, codeAt]
      generalize codeOf (binAt x0 x1 n h) (keepAt x0 x1 x2 x4 n h) = v
      pointwise

/-- The codes after all trips. -/
theorem codeRow_apply (f : Reads eta phi msk xx x0 x1 x2 x3 x4) (i : Fin 8192) : out0_6 x0 x1 x2 x3 x4 (ix3 0 0 i)
      = (((if Spec.keep (bins eta phi) msk i = true then bins eta phi i else 81 : ℕ) : ℝ) : EReal) := by
  rw [out6_eq]
  exact codes_apply f 32 le_rfl i (by omega)

end Trips

end Cert.KernelIdeal.BinVal

end
-- ==== Proof.KStages.lean ====
/- The dense kernel's layers, each written once for a position in its list (a slot, a window's tap, a head), and the
   kernel's result block as these layers one after the other. -/
module

public import proofs.«01_k».proof.Proof.BinIdeal

@[expose] public section

set_option maxRecDepth 16384

noncomputable section

namespace Cert.KernelIdeal.DenseVal

open Cert.KernelIdeal Cert.KernelIdeal.Gen Idealize.ShloMosaic Idealize.ShloMosaic.TcCoe

variable {F : FTy → Type} [FloatOps F]

theorem slicesSlot (n : ℕ) (h : n < 10) : S810x64.Slices ![81 * n, 0] S81x64 :=
  ⟨rfl, fun
    | ⟨0, _⟩ => by show 81 * n + 81 ≤ 810; omega
    | ⟨1, _⟩ => by show 0 + 64 ≤ 64; omega⟩

theorem slicesTap (n : ℕ) (h : n < 25) : S2025x192.Slices ![81 * n, 0] S81x192 :=
  ⟨rfl, fun
    | ⟨0, _⟩ => by show 81 * n + 81 ≤ 2025; omega
    | ⟨1, _⟩ => by show 0 + 192 ≤ 192; omega⟩

theorem slicesHead (n : ℕ) (h : n < 48) : S81x384.Slices ![0, 8 * n] S81x8 :=
  ⟨rfl, fun
    | ⟨0, _⟩ => by show 0 + 81 ≤ 81; omega
    | ⟨1, _⟩ => by show 8 * n + 8 ≤ 384; omega⟩

theorem inbW1 (n : ℕ) (h : n < 10) : ∀ a, (![64 * n, 0] : Fin 2 → Nat) a + S64x32.size a ≤ S640x32.size a
  | ⟨0, _⟩ => by show 64 * n + 64 ≤ 640; omega
  | ⟨1, _⟩ => by show 0 + 32 ≤ 32; omega

theorem inbTap (n : ℕ) (h : n < 25) : ∀ a, (![n, 0] : Fin 2 → Nat) a + S1x192.size a ≤ S25x192.size a
  | ⟨0, _⟩ => by show n + 1 ≤ 25; omega
  | ⟨1, _⟩ => by show 0 + 192 ≤ 192; omega

theorem inbCode (n : ℕ) (h : n < 4) : ∀ a, (![0, 0, 2048 * n] : Fin 3 → Nat) a + S1x1x2048.size a ≤ S1x1x8192.size a
  | ⟨0, _⟩ => by show 0 + 1 ≤ 1; omega
  | ⟨1, _⟩ => by show 0 + 1 ≤ 1; omega
  | ⟨2, _⟩ => by show 2048 * n + 2048 ≤ 8192; omega

theorem inbOut (n : ℕ) (h : n < 4) : ∀ a, (![0, 2048 * n, 0] : Fin 3 → Nat) a + S1x2048x64.size a ≤ S1x8192x64.size a
  | ⟨0, _⟩ => by show 0 + 1 ≤ 1; omega
  | ⟨1, _⟩ => by show 2048 * n + 2048 ≤ 8192; omega
  | ⟨2, _⟩ => by show 0 + 64 ≤ 64; omega

/-- The first layer's weights for the `n`th slot of a bin. -/
abbrev w1Rect (n : ℕ) (h : n < 10) : Rect S640x32 := Rect.unit (s := S640x32) ![64 * n, 0] S64x32.size (inbW1 n h)

/-- The window's `n`th tap's weights. -/
abbrev tapRect (n : ℕ) (h : n < 25) : Rect S25x192 := Rect.unit (s := S25x192) ![n, 0] S1x192.size (inbTap n h)

/-- The `n`th quarter of the codes. -/
abbrev codeRect (n : ℕ) (h : n < 4) : Rect S1x1x8192 :=
  Rect.unit (s := S1x1x8192) ![0, 0, 2048 * n] S1x1x2048.size (inbCode n h)

/-- The `n`th quarter of the result. -/
abbrev outRect (n : ℕ) (h : n < 4) : Rect S1x8192x64 :=
  Rect.unit (s := S1x8192x64) ![0, 2048 * n, 0] S1x2048x64.size (inbOut n h)

/-- The bins' `n`th slots. -/
def slotRows (a : FVec F S810x64 .f32) (n : ℕ) (h : n < 10) : FVec F S81x64 .f32 :=
  extractStridedSlice S81x64 ![81 * n, 0] a (slicesSlot n h)

/-- The first layer before its cut at zero, after `n` slots. -/
def preAt (a : FVec F S810x64 .f32) (w : Vec F S640x32 .f32) (b : FVec F S1x32 .f32) : (n : ℕ) → n ≤ 10 → FVec F S81x32 .f32
  | 0, _ => broadcastTo S81x32 (shapeCast S1x32 b shapeCasts_S1x32_S1x32) broadcasts_S1x32_S81x32
  | n + 1, h => addf (preAt a w b n (Nat.le_of_succ_le h))
      (matmul dot_S81x64_S64x32_S81x32_1_0_0_1_n_n none (slotRows a n h)
        (View.ld w (w1Rect n h) : Vec F S64x32 .f32) (constant S81x32 .f32 0x00000000#32))

/-- The queries, keys and values from the first layer on. -/
def qkvOf (u : FVec F S81x32 .f32) (w2 : FVec F S32x32 .f32) (b2 : FVec F S1x32 .f32) (w : FVec F S32x192 .f32) :
    FVec F S81x192 .f32 :=
  matmul dot_S81x32_S32x192_S81x192_1_0_0_1_n_n none
    (addf (matmul dot_S81x32_S32x32_S81x32_1_0_0_1_n_n none
      (maximumf u (broadcast S81x32 (Scalar.ofBits .f32 0x00000000#32))) w2 (constant S81x32 .f32 0x00000000#32))
      (broadcastTo S81x32 (shapeCast S1x32 b2 shapeCasts_S1x32_S1x32) broadcasts_S1x32_S81x32))
    (shapeCast S32x192 w shapeCasts_S32x192_S32x192) (constant S81x192 .f32 0x00000000#32)

/-- Every tap's values, by a product with a table of ones. -/
def tapsOf (s : FVec F S2025x81 .f32) (q : FVec F S81x192 .f32) : FVec F S2025x192 .f32 :=
  matmul dot_S2025x81_S81x192_S2025x192_1_0_0_1_n_n none s q (constant S2025x192 .f32 0x00000000#32)

/-- One tap's term of the depthwise convolution. -/
def tapTerm (t : FVec F S2025x192 .f32) (w : Vec F S25x192 .f32) (n : ℕ) (h : n < 25) : FVec F S81x192 .f32 :=
  mulf (extractStridedSlice S81x192 ![81 * n, 0] t (slicesTap n h))
    (broadcastTo S81x192 (shapeCast S1x192 (View.ld w (tapRect n h) : Vec F S1x192 .f32) shapeCasts_S1x192_S1x192)
      broadcasts_S1x192_S81x192)

/-- The depthwise convolution up to its `n`th tap. -/
def dwAt (t : FVec F S2025x192 .f32) (w : Vec F S25x192 .f32) : (n : ℕ) → n < 25 → FVec F S81x192 .f32
  | 0, h => tapTerm t w 0 h
  | n + 1, h => addf (dwAt t w n (Nat.lt_of_succ_lt h)) (tapTerm t w (n + 1) h)

/-- Both scales side by side. -/
def multiOf (q d : FVec F S81x192 .f32) (w : FVec F S192x192 .f32) : FVec F S81x384 .f32 :=
  concatenate S81x384 1 [⟨S81x192, q⟩, ⟨S81x192, matmul dot_S81x192_S192x192_S81x192_1_0_0_1_n_n none d
    (shapeCast S192x192 w shapeCasts_S192x192_S192x192) (constant S81x192 .f32 0x00000000#32)⟩]
    concatenates_S81x192_S81x192_S81x384_d1

/-- The `n`th run of eight channels. -/
def eightOf (m : FVec F S81x384 .f32) (n : ℕ) (h : n < 48) : FVec F S81x8 .f32 :=
  extractStridedSlice S81x8 ![0, 8 * n] m (slicesHead n h)

/-- The same cut at zero. -/
def eightPos (m : FVec F S81x384 .f32) (n : ℕ) (h : n < 48) : FVec F S81x8 .f32 :=
  maximumf (eightOf m n h) (broadcast S81x8 (Scalar.ofBits .f32 0x00000000#32))

/-- A head's queries against its keys against its values and ones. -/
def headRaw (m : FVec F S81x384 .f32) (n : ℕ) (h : n < 16) : FVec F S81x9 .f32 :=
  matmul dot_S81x8_S8x9_S81x9_1_0_0_1_n_n none (eightPos m (3 * n) (by omega))
    (matmul dot_S81x8_S81x9_S8x9_0_0_1_1_n_n none (eightPos m (3 * n + 1) (by omega))
      (concatenate S81x9 1 [⟨S81x8, eightOf m (3 * n + 2) (by omega)⟩,
        ⟨S81x1, broadcast S81x1 (Scalar.ofBits .f32 0x3F800000#32)⟩] concatenates_S81x8_S81x1_S81x9_d1)
      (constant S8x9 .f32 0x00000000#32)) (constant S81x9 .f32 0x00000000#32)

/-- A head's eight results: its values over its last column. -/
def headOf (m : FVec F S81x384 .f32) (n : ℕ) (h : n < 16) : FVec F S81x8 .f32 :=
  divf (extractStridedSlice S81x8 ![0, 0] (headRaw m n h) slices_S81x9_o0_0_S81x8)
    (broadcastTo S81x8 (addf (extractStridedSlice S81x1 ![0, 8] (headRaw m n h) slices_S81x9_o0_8_S81x1)
      (broadcast S81x1 (Scalar.ofBits .f32 0x26901D7D#32))) broadcasts_S81x1_S81x8)

/-- The sixteen heads side by side. -/
def attOf (m : FVec F S81x384 .f32) : FVec F S81x128 .f32 :=
  concatenate S81x128 1 [⟨S81x8, headOf m 0 (by omega)⟩, ⟨S81x8, headOf m 1 (by omega)⟩, ⟨S81x8, headOf m 2 (by omega)⟩,
    ⟨S81x8, headOf m 3 (by omega)⟩, ⟨S81x8, headOf m 4 (by omega)⟩, ⟨S81x8, headOf m 5 (by omega)⟩,
    ⟨S81x8, headOf m 6 (by omega)⟩, ⟨S81x8, headOf m 7 (by omega)⟩, ⟨S81x8, headOf m 8 (by omega)⟩,
    ⟨S81x8, headOf m 9 (by omega)⟩, ⟨S81x8, headOf m 10 (by omega)⟩, ⟨S81x8, headOf m 11 (by omega)⟩,
    ⟨S81x8, headOf m 12 (by omega)⟩, ⟨S81x8, headOf m 13 (by omega)⟩, ⟨S81x8, headOf m 14 (by omega)⟩,
    ⟨S81x8, headOf m 15 (by omega)⟩]
    concatenates_S81x8_S81x8_S81x8_S81x8_S81x8_S81x8_S81x8_S81x8_S81x8_S81x8_S81x8_S81x8_S81x8_S81x8_S81x8_S81x8_S81x128_d1

/-- The projection and the normalisation. -/
def rowOf (a : FVec F S81x128 .f32) (w : FVec F S128x64 .f32) (g b : FVec F S1x64 .f32) : FVec F S81x64 .f32 :=
  addf (mulf (matmul dot_S81x128_S128x64_S81x64_1_0_0_1_n_n none a (shapeCast S128x64 w shapeCasts_S128x64_S128x64)
      (constant S81x64 .f32 0x00000000#32))
    (broadcastTo S81x64 (shapeCast S1x64 g shapeCasts_S1x64_S1x64) broadcasts_S1x64_S81x64))
    (broadcastTo S81x64 (shapeCast S1x64 b shapeCasts_S1x64_S1x64) broadcasts_S1x64_S81x64)

/-- Each particle's row of its bin, by a one-hot product with the codes. -/
def pick (y : FVec F S81x64 .f32) (k : Vec F S1x1x2048 .f32) : FVec F S1x2048x64 .f32 :=
  shapeCast S1x2048x64 (matmul dot_S81x2048_S81x64_S2048x64_0_0_1_1_n_n none
    (sitofp .f32 (extui 32 (cmpf .oeq (sitofp .f32 (iota .tc S81x2048 32 [0] iota_S81x2048_d0_w32) : FVec F S81x2048 .f32)
      (broadcastTo S81x2048 (shapeCast S1x2048 k shapeCasts_S1x1x2048_S1x2048) broadcasts_S1x2048_S81x2048)) natLt_1_32))
    y (constant S2048x64 .f32 0x00000000#32)) shapeCasts_S2048x64_S1x2048x64

section Whole

variable (x0 : Vec F S1x810x64 .f32) (x1 : Vec F S640x32 .f32) (x2 : Vec F S1x32 .f32) (x3 : Vec F S32x32 .f32)
  (x4 : Vec F S1x32 .f32) (x5 : Vec F S32x192 .f32) (x6 : Vec F S2025x81 .f32) (x7 : Vec F S25x192 .f32)
  (x8 : Vec F S192x192 .f32) (x9 : Vec F S128x64 .f32) (x10 : Vec F S1x64 .f32) (x11 : Vec F S1x64 .f32)
  (x12 : Vec F S1x1x8192 .f32)

/-- The queries, keys and values of one batch. -/
def qkvW : FVec F S81x192 .f32 :=
  qkvOf (preAt (shapeCast S810x64 (View.ld x0 r1_0 : Vec F S1x810x64 .f32) shapeCasts_S1x810x64_S810x64) x1
    (View.ld x2 r1_1) 10 le_rfl) (View.ld x3 r1_12) (View.ld x4 r1_1) (View.ld x5 r1_13)

/-- Both scales of one batch. -/
def multiW : FVec F S81x384 .f32 :=
  multiOf (qkvW x0 x1 x2 x3 x4 x5)
    (dwAt (tapsOf (View.ld x6 r1_14) (qkvW x0 x1 x2 x3 x4 x5)) x7 24 (by omega)) (View.ld x8 r1_40)

/-- The bins' rows of one batch. -/
def rowsW : FVec F S81x64 .f32 :=
  rowOf (attOf (multiW x0 x1 x2 x3 x4 x5 x6 x7 x8)) (View.ld x9 r1_41) (View.ld x10 r1_42) (View.ld x11 r1_42)

theorem multi_eq : k1_pay52 x0 x1 x2 x3 x4 x5 x6 x7 x8 x9 x10 x11 x12 = multiW x0 x1 x2 x3 x4 x5 x6 x7 x8 := by
  rfl

/-- The first `n` quarters of the result, the last one first. -/
def piecesAt (y : FVec F S81x64 .f32) : (n : ℕ) → n ≤ 4 → List (View.Piece (Elt F) S1x8192x64 .f32)
  | 0, _ => []
  | n + 1, h => ⟨outRect n h, pick y (View.ld x12 (codeRect n h) : Vec F S1x1x2048 .f32)⟩ :: piecesAt y n (Nat.le_of_succ_le h)

/-- The kernel's result block is these layers, in four quarters. -/
theorem out13_eq : out1_13 x0 x1 x2 x3 x4 x5 x6 x7 x8 x9 x10 x11 x12 =
    View.canon (piecesAt x12 (rowsW x0 x1 x2 x3 x4 x5 x6 x7 x8 x9 x10 x11) 4 le_rfl) := by
  rfl

end Whole

end Cert.KernelIdeal.DenseVal

end
-- ==== Proof.KDense.lean ====
/- The dense kernel's layers at an index, over the extended reals, and the whole as the dense part of the mathematics. -/
module

public import proofs.«01_k».proof.Proof.KStages

@[expose] public section

set_option maxRecDepth 16384

noncomputable section

namespace Cert.KernelIdeal.DenseVal

open Cert.KernelIdeal Cert.KernelIdeal.Gen Idealize.ShloMosaic Idealize.ShloMosaic.TcCoe

/-! ## Windows of the weights -/

theorem ld_w1 (w : Vec Ideal S640x32 .f32) (n : ℕ) (h : n < 10) (t : Fin 64) (o : Fin 32) :
    (View.ld w (w1Rect n h) : Vec Ideal S64x32 .f32) (ix2 t o) = w (ix2 ⟨64 * n + t.val, by omega⟩ o) := by
  refine congrArg w ?_
  funext a; apply Fin.ext
  match a with
  | ⟨0, _⟩ => show 64 * n + 1 * t.val = 64 * n + t.val; omega
  | ⟨1, _⟩ => show 0 + 1 * o.val = o.val; omega

theorem ld_tap (w : Vec Ideal S25x192 .f32) (n : ℕ) (h : n < 25) (c : Fin 192) :
    (View.ld w (tapRect n h) : Vec Ideal S1x192 .f32) (ix2 0 c) = w (ix2 ⟨n, h⟩ c) := by
  refine congrArg w ?_
  funext a; apply Fin.ext
  match a with
  | ⟨0, _⟩ => show n + 1 * 0 = n; omega
  | ⟨1, _⟩ => show 0 + 1 * c.val = c.val; omega

theorem ld_code (k : Vec Ideal S1x1x8192 .f32) (n : ℕ) (h : n < 4) (j : Fin 2048) :
    (View.ld k (codeRect n h) : Vec Ideal S1x1x2048 .f32) (ix3 0 0 j) = k (ix3 0 0 ⟨2048 * n + j.val, by omega⟩) := by
  refine congrArg k ?_
  funext a; apply Fin.ext
  match a with
  | ⟨0, _⟩ => rfl
  | ⟨1, _⟩ => rfl
  | ⟨2, _⟩ => show 2048 * n + 1 * j.val = 2048 * n + j.val; omega

/-! ## The layers at an index -/

theorem slotRows_apply (a : FVec Ideal S810x64 .f32) (n : ℕ) (h : n < 10) (p : Fin 81) (f : Fin 64) :
    slotRows a n h (ix2 p f) = a (ix2 ⟨81 * n + p.val, by omega⟩ f) := by
  pointwise [slotRows]

theorem pre_apply (a : FVec Ideal S810x64 .f32) (w : Vec Ideal S640x32 .f32) (b : FVec Ideal S1x32 .f32) (n : ℕ) (h : n ≤ 10)
    (p : Fin 81) (o : Fin 32) : preAt a w b n h (ix2 p o) = b (ix2 0 o)
      + ∑ j : Fin n, ∑ t : Fin 64, a (ix2 ⟨81 * j.val + p.val, by omega⟩ t) * w (ix2 ⟨64 * j.val + t.val, by omega⟩ o) := by
  induction n with
  | zero =>
    rw [Finset.sum_of_isEmpty, add_zero]
    pointwise [preAt]
  | succ n ih =>
    rw [Fin.sum_univ_castSucc, ← add_assoc]
    simp only [Fin.val_castSucc, Fin.val_last]
    rw [← ih (by omega)]
    have e : preAt a w b (n + 1) h (ix2 p o) = preAt a w b n (by omega) (ix2 p o)
        + ∑ t : Fin 64, slotRows a n h (ix2 p t) * (View.ld w (w1Rect n h) : Vec Ideal S64x32 .f32) (ix2 t o) := by
      rw [preAt]
      generalize preAt a w b n _ = y
      generalize slotRows a n h = u
      generalize (View.ld w (w1Rect n h) : Vec Ideal S64x32 .f32) = v
      pointwise
    rw [e]
    refine congrArg (preAt a w b n (by omega) (ix2 p o) + ·) (Finset.sum_congr rfl fun t _ => ?_)
    rw [slotRows_apply]
    exact congrArg _ (ld_w1 w n h t o)

theorem qkvOf_apply (u : FVec Ideal S81x32 .f32) (w2 : FVec Ideal S32x32 .f32) (b2 : FVec Ideal S1x32 .f32)
    (w : FVec Ideal S32x192 .f32) (p : Fin 81) (c : Fin 192) : qkvOf u w2 b2 w (ix2 p c)
      = ∑ k : Fin 32, (∑ o : Fin 32, Spec.relu (u (ix2 p o)) * w2 (ix2 o k) + b2 (ix2 0 k)) * w (ix2 k c) := by
  pointwise [qkvOf, Spec.relu]

theorem tapsOf_apply (s : FVec Ideal S2025x81 .f32) (q : FVec Ideal S81x192 .f32) (r : Fin 2025) (c : Fin 192) :
    tapsOf s q (ix2 r c) = ∑ k : Fin 81, s (ix2 r k) * q (ix2 k c) := by
  pointwise [tapsOf]

theorem tapTerm_apply (t : FVec Ideal S2025x192 .f32) (w : Vec Ideal S25x192 .f32) (n : ℕ) (h : n < 25) (p : Fin 81)
    (c : Fin 192) : tapTerm t w n h (ix2 p c) = t (ix2 ⟨81 * n + p.val, by omega⟩ c) * w (ix2 ⟨n, h⟩ c) := by
  rw [← ld_tap w n h c]
  unfold tapTerm
  generalize (View.ld w (tapRect n h) : Vec Ideal S1x192 .f32) = v
  pointwise

theorem dw_apply (t : FVec Ideal S2025x192 .f32) (w : Vec Ideal S25x192 .f32) (n : ℕ) (h : n < 25) (p : Fin 81)
    (c : Fin 192) : dwAt t w n h (ix2 p c)
      = ∑ j : Fin (n + 1), t (ix2 ⟨81 * j.val + p.val, by omega⟩ c) * w (ix2 ⟨j.val, by omega⟩ c) := by
  induction n with
  | zero =>
    rw [dwAt, tapTerm_apply]; simp
  | succ n ih =>
    rw [Fin.sum_univ_castSucc]
    simp only [Fin.val_castSucc, Fin.val_last]
    rw [← ih (by omega), ← tapTerm_apply t w (n + 1) h]
    rfl

theorem multiOf_apply (q d : FVec Ideal S81x192 .f32) (w : FVec Ideal S192x192 .f32) (p : Fin 81) (c : Fin 384) :
    multiOf q d w (ix2 p c) = if h : c.val < 192 then q (ix2 p ⟨c.val, h⟩)
      else ∑ k : Fin 192, d (ix2 p k) * w (ix2 k ⟨c.val - 192, by omega⟩) := by
  pointwise [multiOf]

theorem eightOf_apply (m : FVec Ideal S81x384 .f32) (n : ℕ) (h : n < 48) (p : Fin 81) (d : Fin 8) :
    eightOf m n h (ix2 p d) = m (ix2 p ⟨8 * n + d.val, by omega⟩) := by
  pointwise [eightOf]

theorem eightPos_apply (m : FVec Ideal S81x384 .f32) (n : ℕ) (h : n < 48) (p : Fin 81) (d : Fin 8) :
    eightPos m n h (ix2 p d) = Spec.relu (m (ix2 p ⟨8 * n + d.val, by omega⟩)) := by
  rw [← eightOf_apply m n h p d]
  pointwise [eightPos, Spec.relu]

theorem headRaw_apply (m : FVec Ideal S81x384 .f32) (n : ℕ) (h : n < 16) (p : Fin 81) (e : Fin 9) :
    headRaw m n h (ix2 p e) = Spec.headOut (fun p c => m (ix2 p c)) ⟨n, h⟩ p e := by
  have r : headRaw m n h (ix2 p e) = ∑ d : Fin 8, eightPos m (3 * n) (by omega) (ix2 p d) *
      ∑ q : Fin 81, eightPos m (3 * n + 1) (by omega) (ix2 q d) *
        (if g : e.val < 8 then eightOf m (3 * n + 2) (by omega) (ix2 q ⟨e.val, g⟩) else 1) := by
    unfold headRaw
    generalize eightPos m (3 * n) _ = u
    generalize eightPos m (3 * n + 1) _ = v
    generalize eightOf m (3 * n + 2) _ = w
    pointwise
  have e0 : ∀ d : ℕ, 8 * (3 * n) + d = 24 * n + d := fun d => by omega
  have e1 : ∀ d : ℕ, 8 * (3 * n + 1) + d = 24 * n + 8 + d := fun d => by omega
  have e2 : ∀ d : ℕ, 8 * (3 * n + 2) + d = 24 * n + 16 + d := fun d => by omega
  rw [r]
  simp only [eightPos_apply, eightOf_apply, e0, e1, e2]
  rfl

theorem headOf_apply (m : FVec Ideal S81x384 .f32) (n : ℕ) (h : n < 16) (p : Fin 81) (d : Fin 8) :
    headOf m n h (ix2 p d) = Ideal.div (Spec.headOut (fun p c => m (ix2 p c)) ⟨n, h⟩ p ⟨d.val, by omega⟩)
      (Spec.headOut (fun p c => m (ix2 p c)) ⟨n, h⟩ p 8 + Ideal.ofBits .f32 0x26901D7D#32) := by
  rw [← headRaw_apply, ← headRaw_apply]
  unfold headOf
  generalize headRaw m n h = u
  pointwise

theorem attOf_apply (m : FVec Ideal S81x384 .f32) (p : Fin 81) (c : Fin 128) :
    attOf m (ix2 p c) = Spec.att (Ideal.ofBits .f32 0x26901D7D#32) (fun p c => m (ix2 p c)) p c := by
  have r : attOf m (ix2 p c) = headOf m (c.val / 8) (by omega) (ix2 p ⟨c.val % 8, by omega⟩) := by
    obtain ⟨h, d, rfl⟩ : ∃ (h : Fin 16) (d : Fin 8), c = ⟨8 * h.val + d.val, by omega⟩ :=
      ⟨⟨c.val / 8, by omega⟩, ⟨c.val % 8, by omega⟩, Fin.ext (by show c.val = 8 * (c.val / 8) + c.val % 8; omega)⟩
    have e1 : (8 * h.val + d.val) / 8 = h.val := by omega
    have e2 : (8 * h.val + d.val) % 8 = d.val := by omega
    simp only [e1, e2]
    unfold attOf
    exact concatenate_ofFn_apply (s₁ := S81x8) 1 (fun n : Fin 16 => headOf m n.val n.isLt)
      concatenates_S81x8_S81x8_S81x8_S81x8_S81x8_S81x8_S81x8_S81x8_S81x8_S81x8_S81x8_S81x8_S81x8_S81x8_S81x8_S81x8_S81x128_d1
      rfl 8 rfl (ix2 p ⟨8 * h.val + d.val, by omega⟩) h e1 (ix2 p d) e2.symm (fun b hb => by
        match b with
        | ⟨0, _⟩ => rfl
        | ⟨1, _⟩ => exact absurd rfl hb)
  rw [r, headOf_apply]
  rfl

theorem rowOf_apply (a : FVec Ideal S81x128 .f32) (w : FVec Ideal S128x64 .f32) (g b : FVec Ideal S1x64 .f32) (p : Fin 81)
    (o : Fin 64) : rowOf a w g b (ix2 p o) = (∑ c : Fin 128, a (ix2 p c) * w (ix2 c o)) * g (ix2 0 o) + b (ix2 0 o) := by
  pointwise [rowOf]

/-- The one-hot product with the codes picks the row the code names, and nothing for a code past the last row. -/
theorem pick_apply (y : FVec Ideal S81x64 .f32) (k : Vec Ideal S1x1x2048 .f32) (j : Fin 2048) (o : Fin 64) (r : ℕ)
    (hr : k (ix3 0 0 j) = ((r : ℝ) : EReal)) :
    pick y k (ix3 0 j o) = if h : r < 81 then y (ix2 ⟨r, h⟩ o) else 0 := by
  have e : pick y k (ix3 0 j o) = ∑ q : Fin 81,
      (if ((q.val : ℝ) : EReal) = k (ix3 0 0 j) then (1 : EReal) else 0) * y (ix2 q o) := by
    pointwise [pick]
    refine Finset.sum_congr rfl fun q _ => ?_
    rw [Words.sitofp_bool, Words.sitofp_nat _ (by omega)]
  rw [e, hr]
  by_cases h : r < 81
  · rw [dif_pos h, Finset.sum_eq_single ⟨r, h⟩]
    · rw [if_pos rfl, one_mul]
    · intro q _ hq
      rw [if_neg, zero_mul]
      intro hc
      exact hq (Fin.ext (by exact_mod_cast hc))
    · intro hc; exact absurd (Finset.mem_univ _) hc
  · rw [dif_neg h]
    refine Finset.sum_eq_zero fun q _ => ?_
    rw [if_neg, zero_mul]
    intro hc
    have : q.val = r := by exact_mod_cast hc
    omega

/-! ## The layers one after the other -/

/-- What the kernel's weight arrays hold, in terms of the mathematics' weights. -/
structure Fits (W : Spec.Weights) (x1 : Vec Ideal S640x32 .f32) (x2 : Vec Ideal S1x32 .f32) (x3 : Vec Ideal S32x32 .f32)
    (x4 : Vec Ideal S1x32 .f32) (x5 : Vec Ideal S32x192 .f32) (x6 : Vec Ideal S2025x81 .f32) (x7 : Vec Ideal S25x192 .f32)
    (x8 : Vec Ideal S192x192 .f32) (x9 : Vec Ideal S128x64 .f32) (x10 : Vec Ideal S1x64 .f32) (x11 : Vec Ideal S1x64 .f32) :
    Prop where
  w1 : ∀ k o, x1 (ix2 k o) = W.w1 k o
  b1 : ∀ o, x2 (ix2 0 o) = W.b1 o
  w2 : ∀ k o, x3 (ix2 k o) = W.w2 k o
  b2 : ∀ o, x4 (ix2 0 o) = W.b2 o
  wqkv : ∀ k c, x5 (ix2 k c) = W.wqkv c k
  sel : ∀ (t : Fin 25) (p q : Fin 81), x6 (ix2 ⟨81 * t.val + p.val, by omega⟩ q) =
    if (2 ≤ p.val / 9 + t.val / 5 ∧ p.val / 9 + t.val / 5 < 11 ∧ 2 ≤ p.val % 9 + t.val % 5 ∧ p.val % 9 + t.val % 5 < 11) ∧
      q.val = 9 * (p.val / 9 + t.val / 5 - 2) + (p.val % 9 + t.val % 5 - 2) then 1 else 0
  wdw : ∀ t c, x7 (ix2 t c) = W.wdw c t
  wpw : ∀ k c : Fin 192, x8 (ix2 k c) = if k.val / 8 = c.val / 8 then W.wpw c ⟨k.val % 8, by omega⟩ else 0
  wproj : ∀ c o, x9 (ix2 c o) = W.wproj o c
  γ : ∀ o, x10 (ix2 0 o) = Ideal.div (W.γ o) W.s
  β : ∀ o, x11 (ix2 0 o) = W.β o
  eps : W.eps = Ideal.ofBits .f32 0x26901D7D#32

section Whole

variable {W : Spec.Weights} {x1 : Vec Ideal S640x32 .f32} {x2 : Vec Ideal S1x32 .f32} {x3 : Vec Ideal S32x32 .f32}
  {x4 : Vec Ideal S1x32 .f32} {x5 : Vec Ideal S32x192 .f32} {x6 : Vec Ideal S2025x81 .f32} {x7 : Vec Ideal S25x192 .f32}
  {x8 : Vec Ideal S192x192 .f32} {x9 : Vec Ideal S128x64 .f32} {x10 : Vec Ideal S1x64 .f32} {x11 : Vec Ideal S1x64 .f32}

/-- The slots of a batch's bins, as the kernel lays them out: slot by slot. -/
def slotTable (x0 : Vec Ideal S1x810x64 .f32) (p : Fin 81) (k : Fin 640) : EReal :=
  x0 (ix3 0 ⟨81 * (k.val / 64) + p.val, by omega⟩ ⟨k.val % 64, by omega⟩)

theorem hz2 : (![0, 0] : Fin 2 → ℕ) = fun _ => 0 := by
  funext a
  match a with
  | ⟨0, _⟩ => rfl
  | ⟨1, _⟩ => rfl

theorem hz3 : (![0, 0, 0] : Fin 3 → ℕ) = fun _ => 0 := by
  funext a
  match a with
  | ⟨0, _⟩ => rfl
  | ⟨1, _⟩ => rfl
  | ⟨2, _⟩ => rfl

theorem qkvW_apply (f : Fits W x1 x2 x3 x4 x5 x6 x7 x8 x9 x10 x11) (x0 : Vec Ideal S1x810x64 .f32) (p : Fin 81)
    (c : Fin 192) : qkvW x0 x1 x2 x3 x4 x5 (ix2 p c) = Spec.denseQkv W (slotTable x0) p c := by
  have e : ∀ o, preAt (shapeCast S810x64 x0 shapeCasts_S1x810x64_S810x64) x1 x2 10 le_rfl (ix2 p o)
      = ∑ k : Fin 640, slotTable x0 p k * W.w1 k o + W.b1 o := by
    intro o
    rw [pre_apply, f.b1, add_comm, Fin.sum_univ_tiles 10 64 rfl]
    refine congrArg (· + _) (Finset.sum_congr rfl fun j _ => Finset.sum_congr rfl fun t _ => ?_)
    have i1 : (j.val * 64 + t.val) / 64 = j.val := by omega
    have i2 : (j.val * 64 + t.val) % 64 = t.val := by omega
    rw [f.w1]
    refine Ideal.mul_congr ?_ (by simp only [Nat.mul_comm])
    simp only [slotTable, i1, i2]
    pointwise
  unfold qkvW
  rw [View.ld_unit_zero (S := S1x810x64) hz3, View.ld_unit_zero (S := S1x32) hz2, View.ld_unit_zero (S := S32x32) hz2,
    View.ld_unit_zero (S := S1x32) hz2, View.ld_unit_zero (S := S32x192) hz2, qkvOf_apply]
  simp only [e, f.w2, f.b2, f.wqkv]
  rfl

theorem tap_apply (f : Fits W x1 x2 x3 x4 x5 x6 x7 x8 x9 x10 x11) (q : FVec Ideal S81x192 .f32) (t : Fin 25) (p : Fin 81)
    (c : Fin 192) : tapsOf x6 q (ix2 ⟨81 * t.val + p.val, by omega⟩ c) = Spec.tap (fun p c => q (ix2 p c)) p t c := by
  rw [tapsOf_apply]
  simp only [f.sel]
  unfold Spec.tap
  by_cases h : 2 ≤ p.val / 9 + t.val / 5 ∧ p.val / 9 + t.val / 5 < 11 ∧ 2 ≤ p.val % 9 + t.val % 5 ∧ p.val % 9 + t.val % 5 < 11
  · rw [dif_pos h, Finset.sum_eq_single ⟨9 * (p.val / 9 + t.val / 5 - 2) + (p.val % 9 + t.val % 5 - 2), by omega⟩]
    · rw [if_pos ⟨h, rfl⟩, one_mul]
    · intro r _ hr
      rw [if_neg, zero_mul]
      exact fun hc => hr (Fin.ext hc.2)
    · intro hc; exact absurd (Finset.mem_univ _) hc
  · rw [dif_neg h]
    exact Finset.sum_eq_zero fun r _ => by rw [if_neg (fun hc => h hc.1), zero_mul]

theorem group_apply (f : Fits W x1 x2 x3 x4 x5 x6 x7 x8 x9 x10 x11) (d : FVec Ideal S81x192 .f32) (p : Fin 81)
    (c : Fin 192) : ∑ k : Fin 192, d (ix2 p k) * x8 (ix2 k c) = Spec.pw W.wpw (fun p c => d (ix2 p c)) p c := by
  simp only [f.wpw]
  rw [Fin.sum_univ_tiles 24 8 rfl]
  have i1 : ∀ (g : Fin 24) (j : Fin 8), (g.val * 8 + j.val) / 8 = g.val := fun g j => by omega
  have i2 : ∀ (g : Fin 24) (j : Fin 8), (g.val * 8 + j.val) % 8 = j.val := fun g j => by omega
  simp only [i1, i2]
  rw [Finset.sum_eq_single (⟨c.val / 8, by omega⟩ : Fin 24)]
  · unfold Spec.pw
    refine Finset.sum_congr rfl fun j _ => ?_
    rw [if_pos rfl]
    simp only [Nat.mul_comm]
  · intro g _ hg
    refine Finset.sum_eq_zero fun j _ => ?_
    rw [if_neg (fun hc => hg (Fin.ext hc)), mul_zero]
  · intro hc; exact absurd (Finset.mem_univ _) hc

theorem multiW_apply (f : Fits W x1 x2 x3 x4 x5 x6 x7 x8 x9 x10 x11) (x0 : Vec Ideal S1x810x64 .f32) (p : Fin 81)
    (c : Fin 384) : multiW x0 x1 x2 x3 x4 x5 x6 x7 x8 (ix2 p c)
      = Spec.denseMulti W (Spec.denseQkv W (slotTable x0)) p c := by
  have q : (fun p c => qkvW x0 x1 x2 x3 x4 x5 (ix2 p c)) = Spec.denseQkv W (slotTable x0) := by
    funext p c; exact qkvW_apply f x0 p c
  have d : (fun p c => dwAt (tapsOf x6 (qkvW x0 x1 x2 x3 x4 x5)) x7 24 (by omega) (ix2 p c))
      = Spec.dw W.wdw (Spec.denseQkv W (slotTable x0)) := by
    funext p c
    rw [dw_apply]
    refine Finset.sum_congr rfl fun t _ => ?_
    rw [tap_apply f, f.wdw, q]
  unfold multiW
  rw [View.ld_unit_zero (S := S2025x81) hz2, View.ld_unit_zero (S := S192x192) hz2, multiOf_apply]
  unfold Spec.denseMulti Spec.multi
  by_cases h : c.val < 192
  · rw [dif_pos h, dif_pos h, qkvW_apply f]
  · rw [dif_neg h, dif_neg h, group_apply f, d]

/-- The bins' rows the kernel computes are the dense part's. -/
theorem rowsW_apply (f : Fits W x1 x2 x3 x4 x5 x6 x7 x8 x9 x10 x11) (x0 : Vec Ideal S1x810x64 .f32) (p : Fin 81)
    (o : Fin 64) : rowsW x0 x1 x2 x3 x4 x5 x6 x7 x8 x9 x10 x11 (ix2 p o) = Spec.dense W (slotTable x0) p o := by
  have m : (fun p c => multiW x0 x1 x2 x3 x4 x5 x6 x7 x8 (ix2 p c))
      = Spec.denseMulti W (Spec.denseQkv W (slotTable x0)) := by
    funext p c; exact multiW_apply f x0 p c
  unfold rowsW
  rw [View.ld_unit_zero (S := S128x64) hz2, View.ld_unit_zero (S := S1x64) hz2, View.ld_unit_zero (S := S1x64) hz2,
    rowOf_apply]
  simp only [attOf_apply, m, f.wproj, f.γ, f.β, ← f.eps]
  rfl

/-- A quarter of the result read at a particle of the quarter. -/
theorem pieces_apply (y : FVec Ideal S81x64 .f32) (x12 : Vec Ideal S1x1x8192 .f32) (n : ℕ) (h : n ≤ 4) (i : Fin 8192)
    (hi : i.val < 2048 * n) (o : Fin 64) (r : ℕ) (hr : x12 (ix3 0 0 i) = ((r : ℝ) : EReal)) :
    View.canon (piecesAt x12 y n h) (ix3 0 i o) = if h : r < 81 then y (ix2 ⟨r, h⟩ o) else 0 := by
  induction n with
  | zero => omega
  | succ n ih =>
    rw [piecesAt]
    by_cases hn : i.val < 2048 * n
    · rw [View.canon_cons_of_not_mem]
      · exact ih (by omega) hn
      · intro hc
        have := (Rect.mem_set_unit (inb := inbOut n h)).mp hc (1 : Fin 3)
        have h0 : 2048 * n ≤ i.val := this.1
        omega
    · have e : (ix3 0 i o : S1x8192x64.Idx) = (outRect n h).emb (ix3 0 ⟨i.val - 2048 * n, by omega⟩ o) := by
        funext a; apply Fin.ext
        match a with
        | ⟨0, _⟩ => rfl
        | ⟨1, _⟩ => show i.val = 2048 * n + 1 * (i.val - 2048 * n); omega
        | ⟨2, _⟩ => show o.val = 0 + 1 * o.val; omega
      rw [e, View.canon_cons_emb]
      refine pick_apply y _ _ o r ?_
      rw [ld_code, ← hr]
      congr 2
      apply Fin.ext
      show 2048 * n + (i.val - 2048 * n) = i.val
      omega

/-- The kernel's result block: each particle's row of the dense part, the one its code names. -/
theorem out13_apply (f : Fits W x1 x2 x3 x4 x5 x6 x7 x8 x9 x10 x11) (x0 : Vec Ideal S1x810x64 .f32)
    (x12 : Vec Ideal S1x1x8192 .f32) (i : Fin 8192) (o : Fin 64) (r : ℕ) (hr : x12 (ix3 0 0 i) = ((r : ℝ) : EReal)) :
    out1_13 x0 x1 x2 x3 x4 x5 x6 x7 x8 x9 x10 x11 x12 (ix3 0 i o)
      = if h : r < 81 then Spec.dense W (slotTable x0) ⟨r, h⟩ o else 0 := by
  rw [out13_eq, pieces_apply _ _ 4 le_rfl i (by omega) o r hr]
  simp only [rowsW_apply f]

end Whole

end Cert.KernelIdeal.DenseVal

end
-- ==== Proof.Layer.lean ====
/- The layer as one function of the program's argument arrays. -/
module

public import proofs.«01_k».proof.Proof.KDense

@[expose] public section

noncomputable section

namespace Cert.Layer

open Cert.ReferenceIdeal Idealize.ShloMosaic

/-- The first coordinate of a batch's particles. -/
def eta (a1 : FVec Ideal S4x8192x3 .f32) (b : Fin 4) (n : Fin 8192) : EReal := a1 (ix3 b n 0)

/-- The angle of a batch's particles. -/
def phi (a1 : FVec Ideal S4x8192x3 .f32) (b : Fin 4) (n : Fin 8192) : EReal :=
  Ideal.atan2 (a1 (ix3 b n 1)) (a1 (ix3 b n 2))

/-- A batch's mask. -/
def msk (a2 : IVec S4x8192 1) (b : Fin 4) (n : Fin 8192) : Bool := decide (a2 (ix2 b n) = 1#1)

/-- A batch's features. -/
def feat (a0 : FVec Ideal S4x8192x64 .f32) (b : Fin 4) (n : Fin 8192) (f : Fin 64) : EReal := a0 (ix3 b n f)

/-- A batch's bins. -/
def bins (a1 : FVec Ideal S4x8192x3 .f32) (b : Fin 4) : Fin 8192 → ℕ :=
  KernelIdeal.BinVal.bins (eta a1 b) (phi a1 b)

theorem bins_lt (a1 : FVec Ideal S4x8192x3 .f32) (b : Fin 4) (n : Fin 8192) : bins a1 b n < 81 :=
  Spec.binId_lt _ _ _ _

/-- The result array. -/
def result (a0 : FVec Ideal S4x8192x64 .f32) (a1 : FVec Ideal S4x8192x3 .f32) (a2 : IVec S4x8192 1)
    (W : Spec.Weights) : FVec Ideal S4x8192x64 .f32 := fun i =>
  Spec.out W (bins a1 (i 0)) (bins_lt a1 (i 0)) (msk a2 (i 0)) (feat a0 (i 0)) (i 1) (i 2)

end Cert.Layer

end
-- ==== Proof.KHost.lean ====
/- What the kernel program's host operations hand to its two kernels, at an index, over the extended reals. -/
module

public import proofs.«01_k».proof.Proof.Layer
public import Idealize.ShloMosaic.Lib.StableHlo.ReadAt

@[expose] public section

set_option maxRecDepth 16384

noncomputable section

namespace Cert.KernelIdeal.HostVal

open Cert.KernelIdeal Cert.KernelIdeal.Gen Idealize.ShloMosaic Idealize.ShloMosaic.TcCoe

variable (V : Valuation τ sig (Elt Ideal))

theorem uitofp_bit (b : BitVec 1) : FloatOps.uitofp (F := Ideal) .f32 b = (if b = 1#1 then 1 else 0 : EReal) := by
  rcases BitVec.eq_zero_or_eq_one b with rfl | rfl
  · show (((0 : ℕ) : ℝ) : EReal) = _
    simp
  · show (((1 : ℕ) : ℝ) : EReal) = _
    simp

theorem below_apply (i j : ℕ) (hi : i < 256) (hj : j < 256) :
    FloatOps.uitofp (F := Ideal) .f32 (IntOp.cmpi .slt (BitVec.ofNat 32 i) (BitVec.ofNat 32 j))
      = (if i < j then 1 else 0 : EReal) := by
  rw [uitofp_bit]
  refine if_congr ?_ rfl rfl
  show BitVec.ofBool (BitVec.slt (BitVec.ofNat 32 i) (BitVec.ofNat 32 j)) = 1#1 ↔ _
  have e : ∀ n : ℕ, n < 256 → (BitVec.ofNat 32 n).toInt = n := fun n h => by
    rw [BitVec.toInt_eq_toNat_cond, BitVec.toNat_ofNat]
    omega
  rw [BitVec.slt, e i hi, e j hj]
  by_cases h : i < j
  · simp [h]
  · simp [h]

/-! ## Before the binning kernel -/

theorem v2_apply (b : Fin 4) (n : Fin 8192) :
    (StableHlo.after hostOps0 V (Proc.devRef .tc main_v2) : FVec Ideal S4x1x8192 .f32) (ix3 b 0 n)
      = (V (Proc.devRef .tc main_arg1) : FVec Ideal S4x8192x3 .f32) (ix3 b n 0) := by
  after_reads_at

theorem v8_apply (b : Fin 4) (n : Fin 8192) :
    (StableHlo.after hostOps0 V (Proc.devRef .tc main_v8) : FVec Ideal S4x1x8192 .f32) (ix3 b 0 n)
      = Ideal.atan2 ((V (Proc.devRef .tc main_arg1) : FVec Ideal S4x8192x3 .f32) (ix3 b n 1))
          ((V (Proc.devRef .tc main_arg1) : FVec Ideal S4x8192x3 .f32) (ix3 b n 2)) := by
  after_reads_at

theorem v10_apply (b : Fin 4) (n : Fin 8192) :
    (StableHlo.after hostOps0 V (Proc.devRef .tc main_v10) : FVec Ideal S4x1x8192 .f32) (ix3 b 0 n)
      = (if (V (Proc.devRef .tc main_arg2) : IVec S4x8192 1) (ix2 b n) = 1#1 then 1 else 0 : EReal) := by
  after_reads_at
  exact uitofp_bit _

/-- The triangle: one above the diagonal, zero elsewhere. -/
theorem v18_apply (m j : Fin 256) :
    (StableHlo.after hostOps0 V (Proc.devRef .tc main_v18) : FVec Ideal S256x256 .f32) (ix2 m j)
      = (if m.val < j.val then 1 else 0 : EReal) := by
  after_reads_at
  exact below_apply _ _ (by omega) (by omega)

theorem cst_apply (i : Fin 2025) (j : Fin 81) :
    (StableHlo.after hostOps0 V (Proc.devRef .tc main_cst) : FVec Ideal S2025x81 .f32) (ix2 i j)
      = Ideal.ofBits .f32 (lit0 (S2025x81.rowMajor (ix2 i j))) := by
  after_reads_simp
  rfl

/-! ## Before the dense kernel -/

theorem v21_apply (k : Fin 32) (c : Fin 192) :
    (StableHlo.after hostOps1 V (Proc.devRef .tc main_v21) : FVec Ideal S32x192 .f32) (ix2 k c)
      = (V (Proc.devRef .tc main_arg7) : FVec Ideal S192x32x1x1 .f32) (ix4 c k 0 0) := by
  after_reads_at

theorem v24_apply (t : Fin 25) (c : Fin 192) :
    (StableHlo.after hostOps1 V (Proc.devRef .tc main_v24) : FVec Ideal S25x192 .f32) (ix2 t c)
      = (V (Proc.devRef .tc main_arg8) : FVec Ideal S192x1x5x5 .f32) (ix4 c 0 ⟨t.val / 5, by omega⟩ ⟨t.val % 5, by omega⟩) := by
  after_reads_at

theorem v41_apply (c : Fin 128) (o : Fin 64) :
    (StableHlo.after hostOps1 V (Proc.devRef .tc main_v41) : FVec Ideal S128x64 .f32) (ix2 c o)
      = (V (Proc.devRef .tc main_arg10) : FVec Ideal S64x128x1x1 .f32) (ix4 o c 0 0) := by
  after_reads_at

theorem v44_apply (o : Fin 64) :
    (StableHlo.after hostOps1 V (Proc.devRef .tc main_v44) : FVec Ideal S1x64 .f32) (ix2 0 o)
      = Ideal.div ((V (Proc.devRef .tc main_arg11) : FVec Ideal S64 .f32) (ix1 o)) (Ideal.ofBits .f32 0x3F80002A#32) := by
  after_reads_at

theorem v45_apply (o : Fin 64) :
    (StableHlo.after hostOps1 V (Proc.devRef .tc main_v45) : FVec Ideal S1x64 .f32) (ix2 0 o)
      = (V (Proc.devRef .tc main_arg12) : FVec Ideal S64 .f32) (ix1 o) := by
  after_reads_at

theorem v46_apply (o : Fin 32) :
    (StableHlo.after hostOps1 V (Proc.devRef .tc main_v46) : FVec Ideal S1x32 .f32) (ix2 0 o)
      = (V (Proc.devRef .tc main_arg4) : FVec Ideal S32 .f32) (ix1 o) := by
  after_reads_at

theorem v47_apply (o : Fin 32) :
    (StableHlo.after hostOps1 V (Proc.devRef .tc main_v47) : FVec Ideal S1x32 .f32) (ix2 0 o)
      = (V (Proc.devRef .tc main_arg6) : FVec Ideal S32 .f32) (ix1 o) := by
  after_reads_at

theorem eye_apply (i j : ℕ) (hi : i < 24) (hj : j < 24) :
    FloatOps.uitofp (F := Ideal) .f32
      (IntOp.cmpi .eq (IntOp.addi (BitVec.ofNat 32 i) 0#32) (BitVec.ofNat 32 j)) = (if i = j then 1 else 0 : EReal) := by
  rw [uitofp_bit]
  refine if_congr ?_ rfl rfl
  show BitVec.ofBool (BitVec.ofNat 32 i + 0#32 == BitVec.ofNat 32 j) = 1#1 ↔ _
  rw [BitVec.add_zero]
  constructor
  · intro h
    by_contra hne
    have : (BitVec.ofNat 32 i == BitVec.ofNat 32 j) = false := by
      rw [beq_eq_false_iff_ne]
      intro e
      have := congrArg BitVec.toNat e
      simp only [BitVec.toNat_ofNat] at this
      omega
    rw [this] at h
    exact absurd h (by decide)
  · rintro rfl
    rw [beq_self_eq_true]
    rfl

theorem blockDiag (x : FVec Ideal S192x8x1x1 .f32) (k c : Fin 192) (h : c.val / 8 * 8 + c.val % 8 < 192) :
    x (ix4 ⟨c.val / 8 * 8 + c.val % 8, h⟩ ⟨k.val % 8, by omega⟩ 0 0) * FloatOps.uitofp (F := Ideal) .f32
      (IntOp.cmpi .eq (IntOp.addi (BitVec.ofNat 32 (c.val / 8)) 0#32) (BitVec.ofNat 32 (k.val / 8)))
      = if k.val / 8 = c.val / 8 then x (ix4 c ⟨k.val % 8, by omega⟩ 0 0) else 0 := by
  have e : (⟨c.val / 8 * 8 + c.val % 8, h⟩ : Fin 192) = c := Fin.ext (Nat.div_add_mod' c.val 8)
  rw [e, eye_apply _ _ (by omega) (by omega)]
  generalize x (ix4 c ⟨k.val % 8, by omega⟩ 0 0) = y
  by_cases g : k.val / 8 = c.val / 8
  · rw [if_pos g, if_pos g.symm]; exact mul_one (M := EReal) y
  · rw [if_neg g, if_neg fun q => g q.symm]; exact mul_zero (M₀ := EReal) y

theorem v39_apply (k c : Fin 192) :
    (StableHlo.after hostOps1 V (Proc.devRef .tc main_v39) : FVec Ideal S192x192 .f32) (ix2 k c)
      = (if k.val / 8 = c.val / 8 then
          (V (Proc.devRef .tc main_arg9) : FVec Ideal S192x8x1x1 .f32) (ix4 c ⟨k.val % 8, by omega⟩ 0 0) else 0 : EReal) := by
  after_reads_at
  exact blockDiag (V (Proc.devRef .tc main_arg9)) k c _

/-! ## The shift matrix -/

theorem sel_at (t : Fin 25) (p q : Fin 81) (h : 81 * t.val + p.val < 2025) :
    Ideal.ofBits .f32 (lit0 (S2025x81.rowMajor (ix2 ⟨81 * t.val + p.val, h⟩ q)))
      = (if (2 ≤ p.val / 9 + t.val / 5 ∧ p.val / 9 + t.val / 5 < 11 ∧ 2 ≤ p.val % 9 + t.val % 5 ∧ p.val % 9 + t.val % 5 < 11) ∧
          q.val = 9 * (p.val / 9 + t.val / 5 - 2) + (p.val % 9 + t.val % 5 - 2) then 1 else 0 : EReal) := by
  refine (congrArg (Ideal.ofBits .f32) (Table.sel_apply _)).trans ?_
  have e : ((S2025x81.rowMajor (ix2 ⟨81 * t.val + p.val, h⟩ q) : Fin _) : ℕ) = (81 * t.val + p.val) * 81 + q.val := by
    rw [Shape.rowMajor_val_two]; rfl
  rw [e]
  unfold Table.selWord
  rw [show ((81 * t.val + p.val) * 81 + q.val) / 81 % 81 = p.val by omega,
    show ((81 * t.val + p.val) * 81 + q.val) / 81 / 81 = t.val by omega,
    show ((81 * t.val + p.val) * 81 + q.val) % 81 = q.val by omega]
  by_cases g : p.val / 9 + t.val / 5 = q.val / 9 + 2 ∧ p.val % 9 + t.val % 5 = q.val % 9 + 2
  · rw [if_pos (by omega), Nat.beq_eq.mpr g.1, Nat.beq_eq.mpr g.2, Bool.and_self, cond_true, Consts.one]; rfl
  · have z : (Nat.beq (p.val / 9 + t.val / 5) (q.val / 9 + 2) && Nat.beq (p.val % 9 + t.val % 5) (q.val % 9 + 2)) = false :=
      Bool.eq_false_iff.mpr fun w => g (by
        rw [Bool.and_eq_true] at w; exact ⟨Nat.beq_eq.mp w.1, Nat.beq_eq.mp w.2⟩)
    rw [if_neg (by omega), z, cond_false]
    exact Ideal.ofBits_zero _

end Cert.KernelIdeal.HostVal

end
-- ==== Proof.KRun.lean ====
/- The kernel program's run over the extended reals: its result is the layer of its arguments. -/
module

public import proofs.«01_k».proof.Proof.KHost
public import Idealize.ShloMosaic.Lib.Pipeline.ValueKit

@[expose] public section

set_option maxRecDepth 16384

noncomputable section

namespace Cert.KernelIdeal.LayerVal

open Cert.KernelIdeal Cert.KernelIdeal.Gen Idealize.ShloMosaic Idealize.ShloMosaic.TcCoe Idealize.SL.Sem
open Idealize.ShloMosaic.Pipeline (Dat)

/-! ## The windows' places -/

theorem ix0_0 : ∀ t : Fin cfg0.N, win0_0.index t = ![t.val, 0, 0] := by decide +kernel
theorem ix0_1 : ∀ t : Fin cfg0.N, win0_1.index t = ![t.val, 0, 0] := by decide +kernel
theorem ix0_2 : ∀ t : Fin cfg0.N, win0_2.index t = ![t.val, 0, 0] := by decide +kernel
theorem ix0_3 : ∀ t : Fin cfg0.N, win0_3.index t = ![t.val, 0, 0] := by decide +kernel
theorem ix0_4 : ∀ t : Fin cfg0.N, win0_4.index t = ![0, 0] := by decide +kernel
theorem ix0_5 : ∀ t : Fin cfg0.N, win0_5.index t = ![t.val, 0, 0] := by decide +kernel
theorem ix0_6 : ∀ t : Fin cfg0.N, win0_6.index t = ![t.val, 0, 0] := by decide +kernel
theorem ix1_0 : ∀ t : Fin cfg1.N, win1_0.index t = ![t.val, 0, 0] := by decide +kernel
theorem ix1_12 : ∀ t : Fin cfg1.N, win1_12.index t = ![t.val, 0, 0] := by decide +kernel
theorem ix1_13 : ∀ t : Fin cfg1.N, win1_13.index t = ![t.val, 0, 0] := by decide +kernel
theorem ix1_1 : ∀ t : Fin cfg1.N, win1_1.index t = ![0, 0] := by decide +kernel
theorem ix1_2 : ∀ t : Fin cfg1.N, win1_2.index t = ![0, 0] := by decide +kernel
theorem ix1_3 : ∀ t : Fin cfg1.N, win1_3.index t = ![0, 0] := by decide +kernel
theorem ix1_4 : ∀ t : Fin cfg1.N, win1_4.index t = ![0, 0] := by decide +kernel
theorem ix1_5 : ∀ t : Fin cfg1.N, win1_5.index t = ![0, 0] := by decide +kernel
theorem ix1_6 : ∀ t : Fin cfg1.N, win1_6.index t = ![0, 0] := by decide +kernel
theorem ix1_7 : ∀ t : Fin cfg1.N, win1_7.index t = ![0, 0] := by decide +kernel
theorem ix1_8 : ∀ t : Fin cfg1.N, win1_8.index t = ![0, 0] := by decide +kernel
theorem ix1_9 : ∀ t : Fin cfg1.N, win1_9.index t = ![0, 0] := by decide +kernel
theorem ix1_10 : ∀ t : Fin cfg1.N, win1_10.index t = ![0, 0] := by decide +kernel
theorem ix1_11 : ∀ t : Fin cfg1.N, win1_11.index t = ![0, 0] := by decide +kernel

/-- The batch a grid point of the binning kernel works on. -/
def bat0 (t : Fin cfg0.N) : Fin 4 := ⟨t.val, lt_of_lt_of_eq t.isLt N_0⟩

/-- The batch a grid point of the dense kernel works on. -/
def bat1 (t : Fin cfg1.N) : Fin 4 := ⟨t.val, lt_of_lt_of_eq t.isLt N_1⟩

section Blocks

variable (V : (c : Dev nD) → (b : Ref sig .tc) → Buf (Elt Ideal) ((c : Thread nD τ).loc b)) (c : Dev nD)

theorem blk0_0 (t : Fin cfg0.N) (n : Fin 8192) : (iblk0 V c 0 t : FVec Ideal S1x1x8192 .f32) (ix3 0 0 n)
    = (V c main_v2 : FVec Ideal S4x1x8192 .f32) (ix3 (bat0 t) 0 n) := by
  blk_ext [iblk0, ix0_0 t, bat0]
theorem blk0_1 (t : Fin cfg0.N) (n : Fin 8192) : (iblk0 V c 1 t : FVec Ideal S1x1x8192 .f32) (ix3 0 0 n)
    = (V c main_v8 : FVec Ideal S4x1x8192 .f32) (ix3 (bat0 t) 0 n) := by
  blk_ext [iblk0, ix0_1 t, bat0]
theorem blk0_2 (t : Fin cfg0.N) (n : Fin 8192) : (iblk0 V c 2 t : FVec Ideal S1x1x8192 .f32) (ix3 0 0 n)
    = (V c main_v10 : FVec Ideal S4x1x8192 .f32) (ix3 (bat0 t) 0 n) := by
  blk_ext [iblk0, ix0_2 t, bat0]
theorem blk0_3 (t : Fin cfg0.N) (n : Fin 8192) (f : Fin 64) : (iblk0 V c 3 t : FVec Ideal S1x8192x64 .f32) (ix3 0 n f)
    = (V c main_arg0 : FVec Ideal S4x8192x64 .f32) (ix3 (bat0 t) n f) := by
  blk_ext [iblk0, ix0_3 t, bat0]
theorem blk0_4 (t : Fin cfg0.N) (m j : Fin 256) : (iblk0 V c 4 t : FVec Ideal S256x256 .f32) (ix2 m j)
    = (V c main_v18 : FVec Ideal S256x256 .f32) (ix2 m j) := by
  blk_ext [iblk0, ix0_4 t]

theorem blk1_0 (t : Fin cfg1.N) (n : Fin 810) (f : Fin 64) : (iblk1 V c 0 t : FVec Ideal S1x810x64 .f32) (ix3 0 n f)
    = (V c main_v19_0 : FVec Ideal S4x810x64 .f32) (ix3 (bat1 t) n f) := by
  blk_ext [iblk1, ix1_0 t, bat1]
theorem blk1_12 (t : Fin cfg1.N) (n : Fin 8192) : (iblk1 V c 12 t : FVec Ideal S1x1x8192 .f32) (ix3 0 0 n)
    = (V c main_v19_1 : FVec Ideal S4x1x8192 .f32) (ix3 (bat1 t) 0 n) := by
  blk_ext [iblk1, ix1_12 t, bat1]
theorem blk1_1 (t : Fin cfg1.N) (i : Fin 640) (j : Fin 32) : (iblk1 V c 1 t : FVec Ideal S640x32 .f32) (ix2 i j)
    = (V c main_arg3 : FVec Ideal S640x32 .f32) (ix2 i j) := by
  blk_ext [iblk1, ix1_1 t]
theorem blk1_2 (t : Fin cfg1.N) (i : Fin 1) (j : Fin 32) : (iblk1 V c 2 t : FVec Ideal S1x32 .f32) (ix2 i j)
    = (V c main_v46 : FVec Ideal S1x32 .f32) (ix2 i j) := by
  blk_ext [iblk1, ix1_2 t]
theorem blk1_3 (t : Fin cfg1.N) (i : Fin 32) (j : Fin 32) : (iblk1 V c 3 t : FVec Ideal S32x32 .f32) (ix2 i j)
    = (V c main_arg5 : FVec Ideal S32x32 .f32) (ix2 i j) := by
  blk_ext [iblk1, ix1_3 t]
theorem blk1_4 (t : Fin cfg1.N) (i : Fin 1) (j : Fin 32) : (iblk1 V c 4 t : FVec Ideal S1x32 .f32) (ix2 i j)
    = (V c main_v47 : FVec Ideal S1x32 .f32) (ix2 i j) := by
  blk_ext [iblk1, ix1_4 t]
theorem blk1_5 (t : Fin cfg1.N) (i : Fin 32) (j : Fin 192) : (iblk1 V c 5 t : FVec Ideal S32x192 .f32) (ix2 i j)
    = (V c main_v21 : FVec Ideal S32x192 .f32) (ix2 i j) := by
  blk_ext [iblk1, ix1_5 t]
theorem blk1_6 (t : Fin cfg1.N) (i : Fin 2025) (j : Fin 81) : (iblk1 V c 6 t : FVec Ideal S2025x81 .f32) (ix2 i j)
    = (V c main_cst : FVec Ideal S2025x81 .f32) (ix2 i j) := by
  blk_ext [iblk1, ix1_6 t]
theorem blk1_7 (t : Fin cfg1.N) (i : Fin 25) (j : Fin 192) : (iblk1 V c 7 t : FVec Ideal S25x192 .f32) (ix2 i j)
    = (V c main_v24 : FVec Ideal S25x192 .f32) (ix2 i j) := by
  blk_ext [iblk1, ix1_7 t]
theorem blk1_8 (t : Fin cfg1.N) (i : Fin 192) (j : Fin 192) : (iblk1 V c 8 t : FVec Ideal S192x192 .f32) (ix2 i j)
    = (V c main_v39 : FVec Ideal S192x192 .f32) (ix2 i j) := by
  blk_ext [iblk1, ix1_8 t]
theorem blk1_9 (t : Fin cfg1.N) (i : Fin 128) (j : Fin 64) : (iblk1 V c 9 t : FVec Ideal S128x64 .f32) (ix2 i j)
    = (V c main_v41 : FVec Ideal S128x64 .f32) (ix2 i j) := by
  blk_ext [iblk1, ix1_9 t]
theorem blk1_10 (t : Fin cfg1.N) (i : Fin 1) (j : Fin 64) : (iblk1 V c 10 t : FVec Ideal S1x64 .f32) (ix2 i j)
    = (V c main_v44 : FVec Ideal S1x64 .f32) (ix2 i j) := by
  blk_ext [iblk1, ix1_10 t]
theorem blk1_11 (t : Fin cfg1.N) (i : Fin 1) (j : Fin 64) : (iblk1 V c 11 t : FVec Ideal S1x64 .f32) (ix2 i j)
    = (V c main_v45 : FVec Ideal S1x64 .f32) (ix2 i j) := by
  blk_ext [iblk1, ix1_11 t]

end Blocks

/-! ## The binning kernel's blocks and arrays -/

section Run

variable (m : (ℓ : Loc nD τ sig) → Buf (Elt Ideal) ℓ) (ρ : Dev nD → PrngReg) (c : Dev nD)

/-- The features, coordinates and mask at launch. -/
abbrev arg0 : FVec Ideal S4x8192x64 .f32 := m ((c : Thread nD τ).loc main_arg0)
abbrev arg1 : FVec Ideal S4x8192x3 .f32 := m ((c : Thread nD τ).loc main_arg1)
abbrev arg2 : IVec S4x8192 1 := m ((c : Thread nD τ).loc main_arg2)

/-- The weights at launch. -/
def wts : Spec.Weights :=
  RefVal.weights (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

theorem reads (t : Fin cfg0.N) : BinVal.Reads (Layer.eta (arg1 m c) (bat0 t)) (Layer.phi (arg1 m c) (bat0 t))
    (Layer.msk (arg2 m c) (bat0 t)) (Layer.feat (arg0 m c) (bat0 t)) (iblk0 (V1 m ρ) c 0 t) (iblk0 (V1 m ρ) c 1 t)
    (iblk0 (V1 m ρ) c 2 t) (iblk0 (V1 m ρ) c 3 t) (iblk0 (V1 m ρ) c 4 t) where
  eta n := (blk0_0 (V1 m ρ) c t n).trans (HostVal.v2_apply (W0 m ρ c) (bat0 t) n)
  phi n := (blk0_1 (V1 m ρ) c t n).trans (HostVal.v8_apply (W0 m ρ c) (bat0 t) n)
  msk n := ((blk0_2 (V1 m ρ) c t n).trans (HostVal.v10_apply (W0 m ρ c) (bat0 t) n)).trans
    (if_congr decide_eq_true_iff.symm rfl rfl)
  feat n f := (blk0_3 (V1 m ρ) c t n f).trans (congrFun (W1_of m ρ c main_arg0 (by decide)) _)
  tri i j := (blk0_4 (V1 m ρ) c t i j).trans (HostVal.v18_apply (W0 m ρ c) i j)

/-- The slots of every batch, ten blocks of 81 bins. -/
def slotArr : FVec Ideal S4x810x64 .f32 := fun i =>
  Spec.slots (Layer.bins (arg1 m c) (i 0)) (Layer.msk (arg2 m c) (i 0)) (Layer.feat (arg0 m c) (i 0))
    ((i 1).val % 81) ((i 1).val / 81) (i 2)

/-- The bin of every kept particle, 81 for the others. -/
def codeArr : FVec Ideal S4x1x8192 .f32 := fun i =>
  (((if Spec.keep (Layer.bins (arg1 m c) (i 0)) (Layer.msk (arg2 m c) (i 0)) (i 2) = true
    then Layer.bins (arg1 m c) (i 0) (i 2) else 81 : ℕ) : ℝ) : EReal)

theorem slots_at (t : Fin cfg0.N) (n : Fin 810) (f : Fin 64) :
    out0_5 (iblk0 (V1 m ρ) c 0 t) (iblk0 (V1 m ρ) c 1 t) (iblk0 (V1 m ρ) c 2 t) (iblk0 (V1 m ρ) c 3 t)
      (iblk0 (V1 m ρ) c 4 t) (ix3 0 n f) = slotArr m c (ix3 (bat0 t) n f) := by
  have e := BinVal.acc_apply (reads m ρ c t) (n.val / 81) (n.val % 81) (by omega) (by omega) f
  have q : (⟨81 * (n.val / 81) + n.val % 81, by omega⟩ : Fin 810) = n := Fin.ext (Nat.div_add_mod n.val 81)
  rw [q] at e
  exact e

theorem codes_at (t : Fin cfg0.N) (n : Fin 8192) :
    out0_6 (iblk0 (V1 m ρ) c 0 t) (iblk0 (V1 m ρ) c 1 t) (iblk0 (V1 m ρ) c 2 t) (iblk0 (V1 m ρ) c 3 t)
      (iblk0 (V1 m ρ) c 4 t) (ix3 0 0 n) = codeArr m c (ix3 (bat0 t) 0 n) :=
  BinVal.codeRow_apply (reads m ρ c t) n

theorem first_zero {a b : ℕ} (y : (⟨3, ![1, a, b]⟩ : Shape).Idx) : y = ix3 0 (y 1) (y 2) := by
  refine (eq_ix3 y).trans ?_
  rw [show y 0 = (0 : Fin 1) from Subsingleton.elim (α := Fin 1) _ _]
  rfl

theorem slots_final : (dat0 (V1 m ρ) c).arrAt 5 cfg0.N = slotArr m c := by
  refine (dat0 (V1 m ρ) c).arrAt_eq_of_covers 5 _ (by decide +kernel) fun t hf y => ?_
  blk_simp
  rw [after0_5]
  have e : (win0_5.blk t).view.emb y = (ix3 (bat0 t) (y 1) (y 2) : S4x810x64.Idx) := by
    blk_ext [ix0_5 t, bat0]
  rw [e]
  exact (congrArg _ (first_zero (a := 810) (b := 64) y)).trans (slots_at m ρ c t (y 1) (y 2))

theorem codes_final : (dat0 (V1 m ρ) c).arrAt 6 cfg0.N = codeArr m c := by
  refine (dat0 (V1 m ρ) c).arrAt_eq_of_covers 6 _ (by decide +kernel) fun t hf y => ?_
  blk_simp
  rw [after0_6]
  have e : (win0_6.blk t).view.emb y = (ix3 (bat0 t) 0 (y 2) : S4x1x8192.Idx) := by
    blk_ext [ix0_6 t, bat0]
  rw [e]
  refine (congrArg _ ?_).trans (codes_at m ρ c t (y 2))
  refine (first_zero (a := 1) (b := 8192) y).trans ?_
  rw [show y 1 = (0 : Fin 1) from Subsingleton.elim (α := Fin 1) _ _]
  rfl

/-! ## The dense kernel's blocks and array -/

theorem slots_entry : V3 m ρ c main_v19_0 = slotArr m c :=
  ((W3_of m ρ c main_v19_0 (by decide)).trans (W2_arr m ρ c 5)).trans (slots_final m ρ c)

theorem codes_entry : V3 m ρ c main_v19_1 = codeArr m c :=
  ((W3_of m ρ c main_v19_1 (by decide)).trans (W2_arr m ρ c 6)).trans (codes_final m ρ c)

/-- What the dense kernel finds in the tap table is what the first host operations left there. -/
theorem table_entry : V3 m ρ c main_cst = StableHlo.after hostOps0 (W0 m ρ c) (Proc.devRef .tc main_cst) :=
  (W3_of m ρ c main_cst (by decide)).trans (W2_of_ne m ρ c main_cst (by decide))

theorem fits (t : Fin cfg1.N) : DenseVal.Fits (wts m c) (iblk1 (V3 m ρ) c 1 t) (iblk1 (V3 m ρ) c 2 t)
    (iblk1 (V3 m ρ) c 3 t) (iblk1 (V3 m ρ) c 4 t) (iblk1 (V3 m ρ) c 5 t) (iblk1 (V3 m ρ) c 6 t) (iblk1 (V3 m ρ) c 7 t)
    (iblk1 (V3 m ρ) c 8 t) (iblk1 (V3 m ρ) c 9 t) (iblk1 (V3 m ρ) c 10 t) (iblk1 (V3 m ρ) c 11 t) where
  w1 k o := (blk1_1 (V3 m ρ) c t k o).trans (congrFun (W3_args m ρ c main_arg3 (by decide)) _)
  b1 o := ((blk1_2 (V3 m ρ) c t 0 o).trans (HostVal.v46_apply (W2 m ρ c) o)).trans
    (congrFun (W2_args m ρ c main_arg4 (by decide)) _)
  w2 k o := (blk1_3 (V3 m ρ) c t k o).trans (congrFun (W3_args m ρ c main_arg5 (by decide)) _)
  b2 o := ((blk1_4 (V3 m ρ) c t 0 o).trans (HostVal.v47_apply (W2 m ρ c) o)).trans
    (congrFun (W2_args m ρ c main_arg6 (by decide)) _)
  wqkv k o := ((blk1_5 (V3 m ρ) c t k o).trans (HostVal.v21_apply (W2 m ρ c) k o)).trans
    (congrFun (W2_args m ρ c main_arg7 (by decide)) _)
  sel i p q := ((blk1_6 (V3 m ρ) c t _ q).trans (congrFun (table_entry m ρ c) _)).trans
    ((HostVal.cst_apply (W0 m ρ c) _ q).trans (HostVal.sel_at i p q _))
  wdw i o := ((blk1_7 (V3 m ρ) c t i o).trans (HostVal.v24_apply (W2 m ρ c) i o)).trans
    (congrFun (W2_args m ρ c main_arg8 (by decide)) _)
  wpw k o := ((blk1_8 (V3 m ρ) c t k o).trans (HostVal.v39_apply (W2 m ρ c) k o)).trans
    (if_congr Iff.rfl (congrFun (W2_args m ρ c main_arg9 (by decide)) _) rfl)
  wproj k o := ((blk1_9 (V3 m ρ) c t k o).trans (HostVal.v41_apply (W2 m ρ c) k o)).trans
    (congrFun (W2_args m ρ c main_arg10 (by decide)) _)
  γ o := ((blk1_10 (V3 m ρ) c t 0 o).trans (HostVal.v44_apply (W2 m ρ c) o)).trans
    (congrArg (fun a : FVec Ideal S64 .f32 => Ideal.div (a (ix1 o)) (Ideal.ofBits .f32 0x3F80002A#32))
      (W2_args m ρ c main_arg11 (by decide)))
  β o := ((blk1_11 (V3 m ρ) c t 0 o).trans (HostVal.v45_apply (W2 m ρ c) o)).trans
    (congrFun (W2_args m ρ c main_arg12 (by decide)) _)
  eps := rfl

/-- A particle's code read as a bin: a code of 81 stands for a particle that is not kept. -/
theorem out_of_code (W : Spec.Weights) (bin : Fin 8192 → ℕ) (hb : ∀ n, bin n < 81) (msk : Fin 8192 → Bool)
    (x : Fin 8192 → Fin 64 → EReal) (n : Fin 8192) (o : Fin 64) :
    (if h : (if Spec.keep bin msk n = true then bin n else 81) < 81 then
      Spec.dense W (fun p k => Spec.slots bin msk x p.val (k.val / 64) ⟨k.val % 64, by omega⟩)
        ⟨if Spec.keep bin msk n = true then bin n else 81, h⟩ o else 0) = Spec.out W bin hb msk x n o := by
  unfold Spec.out
  have hn := hb n
  by_cases h : Spec.keep bin msk n = true
  · simp only [h, if_true, hn, dite_true]
  · simp only [h, if_false, lt_irrefl, dite_false, Bool.false_eq_true]

/-- The layer of the arguments at launch. -/
abbrev layer : FVec Ideal S4x8192x64 .f32 := Layer.result (arg0 m c) (arg1 m c) (arg2 m c) (wts m c)

theorem table_at (t : Fin cfg1.N) : DenseVal.slotTable (iblk1 (V3 m ρ) c 0 t) = fun p k =>
    Spec.slots (Layer.bins (arg1 m c) (bat1 t)) (Layer.msk (arg2 m c) (bat1 t)) (Layer.feat (arg0 m c) (bat1 t))
      p.val (k.val / 64) ⟨k.val % 64, by omega⟩ := by
  funext p k
  refine (blk1_0 (V3 m ρ) c t _ _).trans ((congrFun (slots_entry m ρ c) _).trans ?_)
  show Spec.slots _ _ _ ((81 * (k.val / 64) + p.val) % 81) ((81 * (k.val / 64) + p.val) / 81) _ = _
  rw [show (81 * (k.val / 64) + p.val) % 81 = p.val by omega, show (81 * (k.val / 64) + p.val) / 81 = k.val / 64 by omega]
  rfl

theorem layer_at (t : Fin cfg1.N) (n : Fin 8192) (o : Fin 64) :
    out1_13 (iblk1 (V3 m ρ) c 0 t) (iblk1 (V3 m ρ) c 1 t) (iblk1 (V3 m ρ) c 2 t) (iblk1 (V3 m ρ) c 3 t)
      (iblk1 (V3 m ρ) c 4 t) (iblk1 (V3 m ρ) c 5 t) (iblk1 (V3 m ρ) c 6 t) (iblk1 (V3 m ρ) c 7 t) (iblk1 (V3 m ρ) c 8 t)
      (iblk1 (V3 m ρ) c 9 t) (iblk1 (V3 m ρ) c 10 t) (iblk1 (V3 m ρ) c 11 t) (iblk1 (V3 m ρ) c 12 t) (ix3 0 n o)
      = layer m c (ix3 (bat1 t) n o) := by
  refine (DenseVal.out13_apply (fits m ρ c t) _ _ n o _
    ((blk1_12 (V3 m ρ) c t n).trans (congrFun (codes_entry m ρ c) _))).trans ?_
  rw [table_at]
  exact out_of_code _ _ _ _ _ _ _

theorem layer_final : (dat1 (V3 m ρ) c).arrAt 13 cfg1.N = layer m c := by
  refine (dat1 (V3 m ρ) c).arrAt_eq_of_covers 13 _ (by decide +kernel) fun t hf y => ?_
  blk_simp
  rw [after1_13]
  have e : (win1_13.blk t).view.emb y = (ix3 (bat1 t) (y 1) (y 2) : S4x8192x64.Idx) := by
    blk_ext [ix1_13 t, bat1]
  rw [e]
  exact (congrArg _ (first_zero (a := 8192) (b := 64) y)).trans (layer_at m ρ c t (y 1) (y 2))

theorem layer_exit : W4 m ρ c (Proc.devRef .tc main_v48) = layer m c :=
  (W4_arr m ρ c 13).trans (layer_final m ρ c)

open Idealize.SL Idealize.SL.RA Idealize.SL.BI
open scoped Idealize.SL.BI
open Idealize.SL.BI.BIBase Idealize.SL.BI.Laws Idealize.SL.ProofMode Idealize.ShloMosaic.Tactic Idealize.ShloMosaic.Rounds

/-- The logic's resources at this program over the extended reals. -/
abbrev Res := MT nD τ sig Unit (Elt Ideal) ℕ (UR sig nD τ) ℕ

-- the launch theorem's implicit arguments are found by unifying its conclusion with this one, which takes unfolding plain
-- definitions in a metavariable's type
set_option backward.isDefEq.respectTransparency.types false in
/-- The run: the result array ends at the layer of the arguments, the arguments as launched. -/
theorem run : θ_run defs (onTc (τ := τ) (main (F := Ideal))) ⟨m, fun _ => 0, ρ⟩ (fun r => ∀ c : Dev nD,
      r.2.mem ((c.tc : Thread nD τ).loc main_v48) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v48 (by decide))).trans (layer_exit m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Run

end Cert.KernelIdeal.LayerVal

end
-- ==== Proof.RefOps.lean ====
/- The reference's running count, gathers and scatters, read at an index. -/
module

public import proofs.«01_k».proof.Proof.KRun
public import Idealize.ShloMosaic.Lib.Routing.Ops
public import Idealize.ShloMosaic.Lib.Routing.OpsSet
public import Idealize.ShloMosaic.Lib.Routing.OpsPair

@[expose] public section

set_option maxRecDepth 16384

noncomputable section

namespace Cert.RefVal

open Cert.ReferenceIdeal Cert.ReferenceIdeal.Gen Idealize.ShloMosaic Idealize.ShloMosaic.TcCoe Idealize.ShloMosaic.StableHlo

/-! ## The running count along the particles -/

/-- The window over the particles. -/
abbrev SW : Shape := ⟨3, ![1, 8192, 1]⟩

theorem numel_SW : SW.numel = 8192 := by decide +kernel

theorem symm_SW (n : Fin SW.numel) :
    (SW.rowMajor.symm n 0).val = 0 ∧ (SW.rowMajor.symm n 1).val = n.val ∧ (SW.rowMajor.symm n 2).val = 0 := by
  have h := Shape.rowMajor_val_three (SW.rowMajor.symm n)
  have h0 : (SW.rowMajor.symm n 0).val < 1 := (SW.rowMajor.symm n 0).isLt
  have h2 : (SW.rowMajor.symm n 2).val < 1 := (SW.rowMajor.symm n 2).isLt
  rw [Equiv.apply_symm_apply] at h
  change n.val = ((SW.rowMajor.symm n 0).val * 8192 + (SW.rowMajor.symm n 1).val) * 1 + (SW.rowMajor.symm n 2).val at h
  omega

/-- Where the entries along the particles hold naturals, the running count holds their sum up to and with the entry. -/
theorem cumsum_apply (x : IVec S4x8192x81 32) (b : Fin 4) (p : Fin 81) (f : ℕ → ℕ)
    (hx : ∀ k : Fin 8192, x (ix3 b k p) = BitVec.ofNat 32 (f k.val)) (init : IVec S_ 32) (hinit : ∀ i, init i = 0#32)
    (n : Fin 8192) :
    Host.reduceWindow IntOp.addi ![1, 8192, 1] ![1, 1, 1] ![0, 8191, 0] ![0, 0, 0] x init
        reduceWindows_S4x8192x81_S4x8192x81_w1s1p0_0_w8192s1p8191_0_w1s1p0_0 h_S_ (ix3 b n p)
      = BitVec.ofNat 32 ((List.range (n.val + 1)).map f).sum := by
  have hj := n.isLt
  unfold Host.reduceWindow
  refine (Routing.foldl_addi_ofNat _ _ (fun m => if 8191 ≤ n.val + m.val then f (n.val + m.val - 8191) else 0)
    (fun m _ => ?_) _ 0 (hinit _)).trans ?_
  · obtain ⟨w0, w1, w2⟩ := symm_SW m
    have hm : m.val < 8192 := (m.cast numel_SW).isLt
    have hb := b.isLt
    have hp := p.isLt
    dsimp only
    split
    · next hin =>
      have h1 := hin 1
      change 8191 ≤ n.val * 1 + (SW.rowMajor.symm m 1).val ∧ n.val * 1 + (SW.rowMajor.symm m 1).val - 8191 < 8192 at h1
      rw [w1] at h1
      rw [if_pos (by omega)]
      refine (congrArg x (funext fun a => Fin.ext ?_)).trans (hx ⟨n.val + m.val - 8191, by omega⟩)
      match a with
      | ⟨0, _⟩ =>
        show b.val * 1 + (SW.rowMajor.symm m 0).val - 0 = b.val
        omega
      | ⟨1, _⟩ =>
        show n.val * 1 + (SW.rowMajor.symm m 1).val - 8191 = n.val + m.val - 8191
        omega
      | ⟨2, _⟩ =>
        show p.val * 1 + (SW.rowMajor.symm m 2).val - 0 = p.val
        omega
    · next hin =>
      rw [if_neg fun hle => hin fun a => by
        match a with
        | ⟨0, _⟩ =>
          show 0 ≤ b.val * 1 + (SW.rowMajor.symm m 0).val ∧ b.val * 1 + (SW.rowMajor.symm m 0).val - 0 < 4
          omega
        | ⟨1, _⟩ =>
          show 8191 ≤ n.val * 1 + (SW.rowMajor.symm m 1).val ∧ n.val * 1 + (SW.rowMajor.symm m 1).val - 8191 < 8192
          omega
        | ⟨2, _⟩ =>
          show 0 ≤ p.val * 1 + (SW.rowMajor.symm m 2).val ∧ p.val * 1 + (SW.rowMajor.symm m 2).val - 0 < 81
          omega]
      exact hinit _
  · rw [Nat.zero_add, Routing.map_finRange_val _ (fun w => if 8191 ≤ n.val + w then f (n.val + w - 8191) else 0)]
    exact congrArg (BitVec.ofNat 32)
      ((congrArg (fun M => ((List.range M).map fun w => if 8191 ≤ n.val + w then f (n.val + w - 8191) else 0).sum)
        numel_SW).trans (Routing.sum_window f 8191 n.val (by omega)))

/-! ## The gathers -/

theorem axis_cases (a : Fin 3) : a = 0 ∨ a = 1 ∨ a = 2 := by
  revert a; decide

/-- A particle takes the entry of its own bin from its own row. -/
theorem gather_own {α : Type} (x : S4x8192x81.Idx → α) (idx : IVec S4x8192x1x1 32) (b : Fin 4) (n : Fin 8192) (k : ℕ)
    (hk : k < 81) (h : idx (ix4 b n 0 0) = BitVec.ofNat 32 k) :
    Host.gather gather_S4x8192x81_S4x8192x1x1_S4x8192x1_n_2_01_01_2_3_111 x idx (ix3 b n 0) = x (ix3 b n ⟨k, hk⟩) := by
  have hi : (BitVec.ofNat 32 k).toInt.toNat = k := by
    rw [BitVec.toInt_eq_toNat_of_lt (by rw [BitVec.toNat_ofNat]; omega), BitVec.toNat_ofNat]
    omega
  unfold Host.gather
  refine congrArg x (funext fun a => Fin.ext ?_)
  show GatherDims.start _ _ _ a + GatherDims.batchCoord _ _ a + GatherDims.offCoord _ _ a = _
  rcases axis_cases a with rfl | rfl | rfl
  · rw [GatherDims.start_batching _ _ _ _ (by decide), GatherDims.offCoord_eq_zero _ _ _ (by decide)]
    unfold GatherDims.batchCoord
    rw [dif_pos (by decide)]
    show 0 + b.val + 0 = b.val
    omega
  · rw [GatherDims.start_batching _ _ _ _ (by decide), GatherDims.offCoord_eq_zero _ _ _ (by decide)]
    unfold GatherDims.batchCoord
    rw [dif_pos (by decide)]
    show 0 + n.val + 0 = n.val
    omega
  · rw [GatherDims.batchCoord_eq_zero _ _ _ (by decide), GatherDims.offCoord_eq_zero _ _ _ (by decide)]
    unfold GatherDims.start
    rw [dif_pos (by decide)]
    have hsi : GatherDims.siIdx gather_S4x8192x81_S4x8192x1x1_S4x8192x1_n_2_01_01_2_3_111 (ix3 b n 0)
        ⟨List.idxOf (2 : Fin 3) gather_S4x8192x81_S4x8192x1x1_S4x8192x1_n_2_01_01_2_3_111.startIndexMap,
          by decide⟩ = ix4 b n 0 0 := by
      funext d
      refine Fin.ext ?_
      match d with
      | ⟨0, _⟩ => rfl
      | ⟨1, _⟩ => rfl
      | ⟨2, _⟩ => rfl
      | ⟨3, _⟩ => rfl
    refine (congrArg (fun i => min (idx i).toInt.toNat 80 + 0 + 0) hsi).trans ?_
    show min (idx (ix4 b n 0 0)).toInt.toNat 80 + 0 + 0 = k
    rw [h, hi]
    omega

/-- A particle takes its bin's column. -/
theorem gather_column {α : Type} (x : S4x64x81.Idx → α) (idx : IVec S4x8192x1 32) (b : Fin 4) (o : Fin 64) (n : Fin 8192)
    (k : ℕ) (hk : k < 81) (h : idx (ix3 b n 0) = BitVec.ofNat 32 k) :
    Host.gather gather_S4x64x81_S4x8192x1_S4x64x8192_1_2_0_0_2_2_1641 x idx (ix3 b o n) = x (ix3 b o ⟨k, hk⟩) := by
  have hi : (BitVec.ofNat 32 k).toInt.toNat = k := by
    rw [BitVec.toInt_eq_toNat_of_lt (by rw [BitVec.toNat_ofNat]; omega), BitVec.toNat_ofNat]
    omega
  unfold Host.gather
  refine congrArg x (funext fun a => Fin.ext ?_)
  show GatherDims.start _ _ _ a + GatherDims.batchCoord _ _ a + GatherDims.offCoord _ _ a = _
  rcases axis_cases a with rfl | rfl | rfl
  · rw [GatherDims.start_batching _ _ _ _ (by decide), GatherDims.offCoord_eq_zero _ _ _ (by decide)]
    unfold GatherDims.batchCoord
    rw [dif_pos (by decide)]
    show 0 + b.val + 0 = b.val
    omega
  · rw [GatherDims.batchCoord_eq_zero _ _ _ (by decide)]
    unfold GatherDims.start GatherDims.offCoord
    rw [dif_neg (by decide), dif_pos (by decide)]
    show 0 + 0 + o.val = o.val
    omega
  · rw [GatherDims.batchCoord_eq_zero _ _ _ (by decide), GatherDims.offCoord_eq_zero _ _ _ (by decide)]
    unfold GatherDims.start
    rw [dif_pos (by decide)]
    have hsi : GatherDims.siIdx gather_S4x64x81_S4x8192x1_S4x64x8192_1_2_0_0_2_2_1641 (ix3 b o n)
        ⟨List.idxOf (2 : Fin 3) gather_S4x64x81_S4x8192x1_S4x64x8192_1_2_0_0_2_2_1641.startIndexMap,
          by decide⟩ = ix3 b n 0 := by
      funext d
      refine Fin.ext ?_
      match d with
      | ⟨0, _⟩ => rfl
      | ⟨1, _⟩ => rfl
      | ⟨2, _⟩ => rfl
    refine (congrArg (fun i => min (idx i).toInt.toNat 80 + 0 + 0) hsi).trans ?_
    show min (idx (ix3 b n 0)).toInt.toNat 80 + 0 + 0 = k
    rw [h, hi]
    omega

/-! ## Where the updates of the scatters land -/

/-- A particle's mask lands at the batch and slot its two words name. -/
theorem mask_lands (idx : IVec S4x8192x2 32) (b : Fin 4) (n : Fin 8192) (r : Fin 4) (c : Fin 811) :
    scatter_S4x811_S4x8192x2_S4x8192_n_01_01_2.resultIdx? (ix2 b n) idx = some (ix2 r c)
      ↔ (idx (ix3 b n 0)).toInt = r.val ∧ (idx (ix3 b n 1)).toInt = c.val :=
  Routing.scatter_lands2 (R := 4) (C := 811) (A := 4) (B := 8192) scatter_S4x811_S4x8192x2_S4x8192_n_01_01_2
    rfl rfl rfl idx b n r c

/-- A particle's feature lands at the batch and slot its two words name, in its own place among the features. -/
theorem feat_lands (idx : IVec S4x8192x2 32) (b : Fin 4) (n : Fin 8192) (f : Fin 64) (r : Fin 4) (c : Fin 811)
    (g : Fin 64) :
    scatter_S4x811x64_S4x8192x2_S4x8192x64_2_01_01_2.resultIdx? (ix3 b n f) idx = some (ix3 r c g)
      ↔ (idx (ix3 b n 0)).toInt = r.val ∧ (idx (ix3 b n 1)).toInt = c.val ∧ f = g := by
  have s0 : scatter_S4x811x64_S4x8192x2_S4x8192x64_2_01_01_2.start (ix3 b n f) idx 0 = (idx (ix3 b n 0)).toInt := by
    unfold ScatterDims.start
    rw [dif_pos (by decide)]
    refine congrArg (fun i => (idx i).toInt) (funext fun d => Fin.ext ?_)
    match d with
    | ⟨0, _⟩ => rfl
    | ⟨1, _⟩ => rfl
    | ⟨2, _⟩ => rfl
  have s1 : scatter_S4x811x64_S4x8192x2_S4x8192x64_2_01_01_2.start (ix3 b n f) idx 1 = (idx (ix3 b n 1)).toInt := by
    unfold ScatterDims.start
    rw [dif_pos (by decide)]
    refine congrArg (fun i => (idx i).toInt) (funext fun d => Fin.ext ?_)
    match d with
    | ⟨0, _⟩ => rfl
    | ⟨1, _⟩ => rfl
    | ⟨2, _⟩ => rfl
  have s2 : scatter_S4x811x64_S4x8192x2_S4x8192x64_2_01_01_2.start (ix3 b n f) idx 2 = 0 := by
    unfold ScatterDims.start
    rw [dif_neg (by decide)]
  have w0 : scatter_S4x811x64_S4x8192x2_S4x8192x64_2_01_01_2.window (ix3 b n f) 0 = 0 := by
    unfold ScatterDims.window
    rw [dif_neg (by decide)]
  have w1 : scatter_S4x811x64_S4x8192x2_S4x8192x64_2_01_01_2.window (ix3 b n f) 1 = 0 := by
    unfold ScatterDims.window
    rw [dif_neg (by decide)]
  have w2 : scatter_S4x811x64_S4x8192x2_S4x8192x64_2_01_01_2.window (ix3 b n f) 2 = f.val := by
    unfold ScatterDims.window
    rw [dif_pos (by decide)]
    rfl
  rw [Routing.resultIdx?_eq_some]
  constructor
  · intro h
    have h0 := h 0
    have h1 := h 1
    have h2 := h 2
    rw [s0, w0] at h0
    rw [s1, w1] at h1
    rw [s2, w2] at h2
    change _ = ((r.val : ℕ) : ℤ) at h0
    change _ = ((c.val : ℕ) : ℤ) at h1
    change _ = ((g.val : ℕ) : ℤ) at h2
    exact ⟨by omega, by omega, Fin.ext (by omega)⟩
  · rintro ⟨h0, h1, rfl⟩ a
    match a with
    | ⟨0, _⟩ =>
      show ScatterDims.start _ _ idx 0 + ((ScatterDims.window _ _ 0 : ℕ) : ℤ) = ((r.val : ℕ) : ℤ)
      rw [s0, w0]; omega
    | ⟨1, _⟩ =>
      show ScatterDims.start _ _ idx 1 + ((ScatterDims.window _ _ 1 : ℕ) : ℤ) = ((c.val : ℕ) : ℤ)
      rw [s1, w1]; omega
    | ⟨2, _⟩ =>
      show ScatterDims.start _ _ idx 2 + ((ScatterDims.window _ _ 2 : ℕ) : ℤ) = ((f.val : ℕ) : ℤ)
      rw [s2, w2]; omega

end Cert.RefVal

end
-- ==== Proof.RefBin.lean ====
/- The reference's binning, read at an index: each particle's bin, its rank among its bin's particles, whether it is
   kept, and its slot. -/
module

public import proofs.«01_k».proof.Proof.RefOps
public import Idealize.ShloMosaic.Lib.IndicatorCount
public import Idealize.ShloMosaic.Lib.ReduceAll

@[expose] public section

set_option maxRecDepth 16384

noncomputable section

namespace Cert.RefVal

open Cert.ReferenceIdeal Cert.ReferenceIdeal.Gen Idealize.ShloMosaic Idealize.ShloMosaic.TcCoe Idealize.ShloMosaic.StableHlo

/-! ## The arrays as the program spells them -/

/-- The first coordinate of every particle. -/
def aEta (a1 : FVec Ideal S4x8192x3 .f32) : FVec Ideal S4x8192 .f32 :=
  shapeCast _ (extractStridedSlice S4x8192x1 ![0, 0, 0] a1 slices_S4x8192x3_S4x8192x1_0_0_0) shapeCasts_S4x8192x1_S4x8192

/-- The angle of every particle. -/
def aPhi (a1 : FVec Ideal S4x8192x3 .f32) : FVec Ideal S4x8192 .f32 :=
  Host.atan2 (shapeCast _ (extractStridedSlice S4x8192x1 ![0, 0, 1] a1 slices_S4x8192x3_S4x8192x1_0_0_1) shapeCasts_S4x8192x1_S4x8192)
    (shapeCast _ (extractStridedSlice S4x8192x1 ![0, 0, 2] a1 slices_S4x8192x3_S4x8192x1_0_0_2) shapeCasts_S4x8192x1_S4x8192)

/-- Which of ten edges a value has reached. -/
def aReach (t : FVec Ideal S10 .f32) (v : FVec Ideal S4x8192 .f32) : IVec S4x8192x10 1 :=
  cmpf .ole (broadcastInDim S4x8192x10 ![0, 1, 2] bcast_S1x1x10_S4x8192x10_0_1_2 (broadcastInDim S1x1x10 ![2] bcast_S10_S1x1x10_2 t))
    (broadcastInDim S4x8192x10 ![0, 1, 2] bcast_S4x8192x1_S4x8192x10_0_1_2 (broadcastInDim S4x8192x1 ![0, 1] bcast_S4x8192_S4x8192x1_0_1 v))

/-- How many. -/
def aCount (t : FVec Ideal S10 .f32) (v : FVec Ideal S4x8192 .f32) : IVec S4x8192 32 :=
  Host.reduce IntOp.addi (extui 32 (aReach t v) natLt_1_32) (constantI S_ 32 0#32) reducesTo_S4x8192x10_S4x8192_d2 h_S_

/-- A count less one, held between 0 and 8. -/
def aClip (c : IVec S4x8192 32) : IVec S4x8192 32 :=
  minsi (broadcastInDim S4x8192 ![] bcast_S_S4x8192 (id (constantI S_ 32 8#32)))
    (maxsi (broadcastInDim S4x8192 ![] bcast_S_S4x8192 (id (constantI S_ 32 0#32)))
      (subi c (broadcastInDim S4x8192 ![] bcast_S_S4x8192 (constantI S_ 32 1#32))))

/-- The bin of the 81 from the two coordinates' bins. -/
def aPair (u v : IVec S4x8192 32) : IVec S4x8192 32 :=
  addi (muli u (broadcastInDim S4x8192 ![] bcast_S_S4x8192 (constantI S_ 32 9#32))) v

/-- The bin of every particle. -/
def aBin (a1 : FVec Ideal S4x8192x3 .f32) : IVec S4x8192 32 :=
  aPair (aClip (aCount (fun i => FloatOps.ofBits .f32 (lit0 (S10.rowMajor i))) (aEta a1)))
    (aClip (aCount (fun i => FloatOps.ofBits .f32 (lit1 (S10.rowMajor i))) (aPhi a1)))

/-- One in the column of an unmasked particle's bin. -/
def aOne (bn : IVec S4x8192 32) (a2 : IVec S4x8192 1) : IVec S4x8192x81 32 :=
  muli (extui 32 (cmpi .eq (broadcastInDim S4x8192x81 ![0, 1, 2] bcast_S4x8192x1_S4x8192x81_0_1_2 (broadcastInDim S4x8192x1 ![0, 1] bcast_S4x8192_S4x8192x1_0_1 bn)) (broadcastInDim S4x8192x81 ![0, 1, 2] bcast_S1x1x81_S4x8192x81_0_1_2 (iotaInDim S1x1x81 32 2))) natLt_1_32)
    (broadcastInDim S4x8192x81 ![0, 1, 2] bcast_S4x8192x1_S4x8192x81_0_1_2 (extui 32 (broadcastInDim S4x8192x1 ![0, 1] bcast_S4x8192_S4x8192x1_0_1 a2) natLt_1_32))

/-- The unmasked particles before the particle, by bin. -/
def aBefore (u : IVec S4x8192x81 32) : IVec S4x8192x81 32 :=
  subi (Host.reduceWindow IntOp.addi ![1, 8192, 1] ![1, 1, 1] ![0, 8191, 0] ![0, 0, 0] u (broadcastInDim S_ ![] bcast_S_S_ (constantI S_ 32 0#32)) reduceWindows_S4x8192x81_S4x8192x81_w1s1p0_0_w8192s1p8191_0_w1s1p0_0 h_S_) u

/-- The bins as positions to read at, negative ones from the end. -/
def aWrap (bn : IVec S4x8192 32) : IVec S4x8192x1x1 32 :=
  let v : IVec S4x8192x1 32 := broadcastInDim S4x8192x1 ![0, 1] bcast_S4x8192_S4x8192x1_0_1 bn
  shapeCast _ (select (cmpi .slt v (broadcastInDim S4x8192x1 ![] bcast_S_S4x8192x1 (constantI S_ 32 0#32))) (addi v (broadcastInDim S4x8192x1 ![] bcast_S_S4x8192x1 (constantI S_ 32 81#32))) v) shapeCasts_S4x8192x1_S4x8192x1x1

/-- Which positions lie in range. -/
def aIn (w : IVec S4x8192x1x1 32) : IVec S4x8192x1x1 1 :=
  andi (cmpi .sge w (broadcastInDim S4x8192x1x1 ![] bcast_S_S4x8192x1x1 (constantI S_ 32 0#32))) (cmpi .sle w (broadcastInDim S4x8192x1x1 ![0, 1, 2, 3] bcast_S1x1x1x1_S4x8192x1x1_0_1_2_3 (broadcastInDim S1x1x1x1 ![3] bcast_S1_S1x1x1x1_3 (constantI S1 32 80#32))))

/-- A particle's entry in the column of its bin. -/
def aTake (w : IVec S4x8192x1x1 32) (u : IVec S4x8192x81 32) : IVec S4x8192 32 :=
  shapeCast _ (select (Host.reduce IntOp.andi (aIn w) (constantI S_ 1 1#1) reducesTo_S4x8192x1x1_S4x8192x1_d3 h_S_) (Host.gather gather_S4x8192x81_S4x8192x1x1_S4x8192x1_n_2_01_01_2_3_111 u w) (broadcastInDim S4x8192x1 ![] bcast_S_S4x8192x1 (constantI S_ 32 2147483648#32))) shapeCasts_S4x8192x1_S4x8192

/-- The rank of every particle. -/
def aRank (bn : IVec S4x8192 32) (a2 : IVec S4x8192 1) : IVec S4x8192 32 := aTake (aWrap bn) (aBefore (aOne bn a2))

/-- Which particles are kept. -/
def aKeep (rk : IVec S4x8192 32) (a2 : IVec S4x8192 1) : IVec S4x8192 1 :=
  andi a2 (cmpi .slt rk (broadcastInDim S4x8192 ![] bcast_S_S4x8192 (constantI S_ 32 10#32)))

/-- The slot of every particle, the last one for those not kept. -/
def aSlot (kp : IVec S4x8192 1) (bn rk : IVec S4x8192 32) : IVec S4x8192 32 :=
  select kp (addi (muli bn (broadcastInDim S4x8192 ![] bcast_S_S4x8192 (constantI S_ 32 10#32))) rk) (broadcastInDim S4x8192 ![] bcast_S_S4x8192 (id (constantI S_ 32 810#32)))

/-! ## Bins -/

theorem edge_word (c : ℕ) (h : c < 11) :
    IntOp.minsi 8#32 (IntOp.maxsi 0#32 (IntOp.subi (BitVec.ofNat 32 c) 1#32)) = BitVec.ofNat 32 (min 8 (c - 1)) := by
  interval_cases c <;> decide

theorem reduces_edges : S4x8192x10.Reduces [2] S4x8192 := by decide

theorem aReach_apply (t : FVec Ideal S10 .f32) (v : FVec Ideal S4x8192 .f32) (b : Fin 4) (n : Fin 8192) (i : Fin 10) :
    aReach t v (ix3 b n i) = BitVec.ofBool (decide (t (ix1 i) ≤ v (ix2 b n))) := by
  pointwise [aReach]

theorem aCount_apply (t : FVec Ideal S10 .f32) (v : FVec Ideal S4x8192 .f32) (b : Fin 4) (n : Fin 8192) :
    aCount t v (ix2 b n) = BitVec.ofNat 32 (Finset.univ.filter fun i : Fin 10 => t (ix1 i) ≤ v (ix2 b n)).card := by
  unfold aCount
  rw [Host.reduce_eq_fold_single _ _ _ _ reduces_edges]
  have e : ∀ i : Fin 10, reduces_edges.lift (ix2 b n) i = ix3 b n i := fun i => by
    funext a
    match a with
    | ⟨0, _⟩ => rfl
    | ⟨1, _⟩ => rfl
    | ⟨2, _⟩ => rfl
  have q : (extui 32 (aReach t v) natLt_1_32 : IVec S4x8192x10 32) ∘ reduces_edges.lift (ix2 b n)
      = fun i : Fin 10 => (aReach t v (ix3 b n i)).setWidth 32 := by
    funext i
    exact congrArg (fun j => (aReach t v j).setWidth 32) (e i)
  rw [q]
  refine (IndicatorCount.fold_addi_setWidth_eq_card (w := 32) (fun i : Fin 10 => aReach t v (ix3 b n i)) Finset.univ).trans ?_
  refine congrArg (fun s : Finset (Fin 10) => BitVec.ofNat 32 s.card) (Finset.filter_congr fun i _ => ?_)
  rw [aReach_apply]
  by_cases h : t (ix1 i) ≤ v (ix2 b n) <;> simp [h]

theorem aClip_apply (t : FVec Ideal S10 .f32) (v : FVec Ideal S4x8192 .f32) (b : Fin 4) (n : Fin 8192) :
    aClip (aCount t v) (ix2 b n) = BitVec.ofNat 32 (Spec.edgeBin (fun i => t (ix1 i)) (v (ix2 b n))) := by
  have h := aCount_apply t v b n
  generalize aCount t v = c at h ⊢
  have e : aClip c (ix2 b n) = IntOp.minsi 8#32 (IntOp.maxsi 0#32 (IntOp.subi (c (ix2 b n)) 1#32)) := by
    pointwise [aClip]
    rfl
  rw [e, h, edge_word]
  · rfl
  · refine Nat.lt_succ_of_le ((Finset.card_le_univ _).trans ?_)
    simp

theorem aPair_apply (u v : IVec S4x8192 32) (b : Fin 4) (n : Fin 8192) (p q : ℕ) (hu : u (ix2 b n) = BitVec.ofNat 32 p)
    (hv : v (ix2 b n) = BitVec.ofNat 32 q) : aPair u v (ix2 b n) = BitVec.ofNat 32 (p * 9 + q) := by
  have e : aPair u v (ix2 b n) = u (ix2 b n) * 9#32 + v (ix2 b n) := by
    pointwise [aPair]
    rfl
  rw [e, hu, hv, BitVec.ofNat_add, BitVec.ofNat_mul]

theorem aEta_apply (a1 : FVec Ideal S4x8192x3 .f32) (b : Fin 4) (n : Fin 8192) :
    aEta a1 (ix2 b n) = Layer.eta a1 b n := by
  pointwise [aEta, Layer.eta]

theorem aPhi_apply (a1 : FVec Ideal S4x8192x3 .f32) (b : Fin 4) (n : Fin 8192) :
    aPhi a1 (ix2 b n) = Layer.phi a1 b n := by
  pointwise [aPhi, Layer.phi]

theorem etaEdges (i : Fin 10) : (FloatOps.ofBits (F := Ideal) .f32 (lit0 (S10.rowMajor (ix1 i))) : EReal)
    = KernelIdeal.BinVal.edge KernelIdeal.BinVal.etaWord i := by
  have h : lit0 (S10.rowMajor (ix1 i)) = KernelIdeal.BinVal.etaWord i := by
    fin_cases i <;> rfl
  rw [h]
  rfl

theorem phiEdges (i : Fin 10) : (FloatOps.ofBits (F := Ideal) .f32 (lit1 (S10.rowMajor (ix1 i))) : EReal)
    = KernelIdeal.BinVal.edge KernelIdeal.BinVal.phiWord i := by
  have h : lit1 (S10.rowMajor (ix1 i)) = KernelIdeal.BinVal.phiWord i := by
    fin_cases i <;> rfl
  rw [h]
  rfl

theorem aBin_apply (a1 : FVec Ideal S4x8192x3 .f32) (b : Fin 4) (n : Fin 8192) :
    aBin a1 (ix2 b n) = BitVec.ofNat 32 (Layer.bins a1 b n) := by
  refine aPair_apply _ _ b n _ _ ?_ ?_
  · rw [aClip_apply, aEta_apply]
    exact congrArg (fun e => BitVec.ofNat 32 (Spec.edgeBin e (Layer.eta a1 b n))) (funext etaEdges)
  · rw [aClip_apply, aPhi_apply]
    exact congrArg (fun e => BitVec.ofNat 32 (Spec.edgeBin e (Layer.phi a1 b n))) (funext phiEdges)

/-! ## Ranks -/

/-- One if the particle of that number is unmasked and in the bin. -/
def member (B : Fin 8192 → ℕ) (M : Fin 8192 → Bool) (p k : ℕ) : ℕ :=
  if h : k < 8192 then (if M ⟨k, h⟩ = true ∧ B ⟨k, h⟩ = p then 1 else 0) else 0

theorem sum_range_map (f : ℕ → ℕ) (n : ℕ) : ((List.range n).map f).sum = ∑ k ∈ Finset.range n, f k := by
  induction n with
  | zero => rfl
  | succ n ih => rw [List.range_succ, List.map_append, List.sum_append, ih, Finset.sum_range_succ]; simp

theorem sum_member (B : Fin 8192 → ℕ) (M : Fin 8192 → Bool) (n : Fin 8192) :
    ((List.range n.val).map (member B M (B n))).sum = Spec.rank B M n := by
  rw [sum_range_map]
  unfold Spec.rank
  rw [Finset.card_filter]
  have e : ∀ k ∈ Finset.range 8192, (if k < n.val then member B M (B n) k else 0)
      = if h : k < 8192 then (if (⟨k, h⟩ : Fin 8192) < n ∧ M ⟨k, h⟩ = true ∧ B ⟨k, h⟩ = B n then 1 else 0) else 0 := by
    intro k hk
    have hk := Finset.mem_range.1 hk
    rw [dif_pos hk]
    unfold member
    rw [dif_pos hk]
    by_cases h : k < n.val
    · rw [if_pos h]
      exact if_congr ⟨fun g => ⟨h, g⟩, fun g => g.2⟩ rfl rfl
    · rw [if_neg h, if_neg fun g => h g.1]
  have f : ∑ k ∈ Finset.range n.val, member B M (B n) k
      = ∑ k ∈ Finset.range 8192, if k < n.val then member B M (B n) k else 0 := by
    rw [← Finset.sum_filter]
    refine Finset.sum_congr (Finset.ext fun k => ?_) fun _ _ => rfl
    rw [Finset.mem_filter, Finset.mem_range, Finset.mem_range]
    have := n.isLt
    omega
  rw [f, Finset.sum_congr rfl e, Finset.sum_range]
  exact Finset.sum_congr rfl fun k _ => dif_pos k.isLt

theorem rank_le (B : Fin 8192 → ℕ) (M : Fin 8192 → Bool) (n : Fin 8192) : Spec.rank B M n ≤ 8192 :=
  (Finset.card_le_univ _).trans (by simp)

section Words

variable (bn : IVec S4x8192 32) (a2 : IVec S4x8192 1) (B : Fin 4 → Fin 8192 → ℕ)
variable (hB : ∀ b n, bn (ix2 b n) = BitVec.ofNat 32 (B b n)) (hlt : ∀ b n, B b n < 81)

include hB hlt

theorem aOne_apply (b : Fin 4) (n : Fin 8192) (p : Fin 81) :
    aOne bn a2 (ix3 b n p) = BitVec.ofNat 32 (member (B b) (Layer.msk a2 b) p.val n.val) := by
  have e : aOne bn a2 (ix3 b n p) = IntOp.muli ((IntOp.cmpi .eq (bn (ix2 b n)) (BitVec.ofNat 32 p.val)).setWidth 32)
      ((a2 (ix2 b n)).setWidth 32) := by
    pointwise [aOne]
  have hb := hlt b n
  have hp := p.isLt
  rw [e, hB, WordCmp.cmpi_eq_ofNat (by omega) (by omega)]
  unfold member Layer.msk
  rw [dif_pos n.isLt]
  rcases BitVec.eq_zero_or_eq_one (a2 (ix2 b n)) with h | h
  · rw [h, if_neg fun g => by simp [h] at g]
    by_cases c : B b n = p.val <;> simp [c] <;> rfl
  · rw [h]
    by_cases c : B b n = p.val
    · rw [if_pos ⟨by simp [h], c⟩, decide_eq_true c]; rfl
    · rw [if_neg fun g => c g.2, decide_eq_false c]; rfl

theorem aBefore_apply (b : Fin 4) (n : Fin 8192) :
    aBefore (aOne bn a2) (ix3 b n ⟨B b n, hlt b n⟩) = BitVec.ofNat 32 (Spec.rank (B b) (Layer.msk a2 b) n) := by
  have h := fun k => aOne_apply bn a2 B hB hlt b k ⟨B b n, hlt b n⟩
  generalize aOne bn a2 = u at h ⊢
  have c := cumsum_apply u b ⟨B b n, hlt b n⟩ (member (B b) (Layer.msk a2 b) (B b n)) h
    (broadcastInDim S_ ![] bcast_S_S_ (constantI S_ 32 0#32)) (fun _ => rfl) n
  refine (congrArg₂ IntOp.subi c (h n)).trans ?_
  rw [List.range_succ, List.map_append, List.sum_append, sum_member]
  show BitVec.ofNat 32 _ - BitVec.ofNat 32 _ = _
  simp only [List.map_cons, List.map_nil, List.sum_cons, List.sum_nil, Nat.add_zero]
  rw [BitVec.ofNat_add]
  exact BitVec.add_sub_cancel _ _

theorem aWrap_apply (b : Fin 4) (n : Fin 8192) (z w : Fin 1) : aWrap bn (ix4 b n z w) = BitVec.ofNat 32 (B b n) := by
  have e : aWrap bn (ix4 b n z w) = Scalar.select (IntOp.cmpi .slt (bn (ix2 b n)) 0#32)
      (IntOp.addi (bn (ix2 b n)) 81#32) (bn (ix2 b n)) := by
    pointwise [aWrap]
  have hb := hlt b n
  rw [e, hB, Routing.wrap_of_lt]
  rw [BitVec.toNat_ofNat]
  omega

theorem aIn_at (b : Fin 4) (n : Fin 8192) (z w : Fin 1) : aIn (aWrap bn) (ix4 b n z w) = 1#1 := by
  have h := aWrap_apply bn B hB hlt b n z w
  generalize aWrap bn = u at h ⊢
  have e : aIn u (ix4 b n z w) = IntOp.andi (IntOp.cmpi .sge (u (ix4 b n z w)) 0#32) (IntOp.cmpi .sle (u (ix4 b n z w)) 80#32) := by
    pointwise [aIn]
  rw [e, h]
  have hb := hlt b n
  generalize B b n = k at hb
  interval_cases k <;> decide

theorem aIn_apply (i : S4x8192x1x1.Idx) : aIn (aWrap bn) i = 1#1 := by
  have hi : i = ix4 (i 0) (i 1) (i 2) (i 3) := by
    funext a
    match a with
    | ⟨0, _⟩ => rfl
    | ⟨1, _⟩ => rfl
    | ⟨2, _⟩ => rfl
    | ⟨3, _⟩ => rfl
  exact (congrArg (aIn (aWrap bn)) hi).trans (aIn_at bn B hB hlt (i 0) (i 1) (i 2) (i 3))

theorem aRank_apply (b : Fin 4) (n : Fin 8192) :
    aRank bn a2 (ix2 b n) = BitVec.ofNat 32 (Spec.rank (B b) (Layer.msk a2 b) n) := by
  have hw := aWrap_apply bn B hB hlt b n 0 0
  have hi := aIn_apply bn B hB hlt
  have hu := aBefore_apply bn a2 B hB hlt b n
  unfold aRank
  generalize aBefore (aOne bn a2) = u at hu ⊢
  generalize aWrap bn = w at hw hi ⊢
  have e : aTake w u (ix2 b n) = Scalar.select
      (Host.reduce IntOp.andi (aIn w) (constantI S_ 1 1#1) reducesTo_S4x8192x1x1_S4x8192x1_d3 h_S_ (ix3 b n 0))
      (Host.gather gather_S4x8192x81_S4x8192x1x1_S4x8192x1_n_2_01_01_2_3_111 u w (ix3 b n 0)) 2147483648#32 := by
    unfold aTake
    generalize Host.reduce IntOp.andi (aIn w) (constantI S_ 1 1#1) reducesTo_S4x8192x1x1_S4x8192x1_d3 h_S_ = r
    generalize Host.gather gather_S4x8192x81_S4x8192x1x1_S4x8192x1_n_2_01_01_2_3_111 u w = g
    pointwise []
  rw [e, Host.reduce_andi_one _ _ _ _ _ rfl hi, gather_own u w b n (B b n) (hlt b n) hw, hu]
  rfl

theorem aKeep_apply (b : Fin 4) (n : Fin 8192) :
    aKeep (aRank bn a2) a2 (ix2 b n) = BitVec.ofBool (Spec.keep (B b) (Layer.msk a2 b) n) := by
  have h := aRank_apply bn a2 B hB hlt b n
  generalize aRank bn a2 = r at h ⊢
  have e : aKeep r a2 (ix2 b n) = IntOp.andi (a2 (ix2 b n)) (IntOp.cmpi .slt (r (ix2 b n)) 10#32) := by
    pointwise [aKeep]
  have hr := rank_le (B b) (Layer.msk a2 b) n
  have hc : IntOp.cmpi .slt (BitVec.ofNat 32 (Spec.rank (B b) (Layer.msk a2 b) n)) 10#32
      = BitVec.ofBool (decide (Spec.rank (B b) (Layer.msk a2 b) n < 10)) := by
    generalize Spec.rank (B b) (Layer.msk a2 b) n = k at hr
    exact WordCmp.cmpi_slt_ofNat (by omega) (by omega)
  rw [e, h, hc]
  unfold Spec.keep
  generalize decide (Spec.rank (B b) (Layer.msk a2 b) n < 10) = d
  unfold Layer.msk
  rcases BitVec.eq_zero_or_eq_one (a2 (ix2 b n)) with h | h <;> rw [h] <;> cases d <;> rfl

/-- The slot of a particle. -/
def slotOf (B : Fin 8192 → ℕ) (M : Fin 8192 → Bool) (n : Fin 8192) : ℕ :=
  if Spec.keep B M n = true then B n * 10 + Spec.rank B M n else 810

theorem aSlot_apply (b : Fin 4) (n : Fin 8192) :
    aSlot (aKeep (aRank bn a2) a2) bn (aRank bn a2) (ix2 b n) = BitVec.ofNat 32 (slotOf (B b) (Layer.msk a2 b) n) := by
  have h := aRank_apply bn a2 B hB hlt b n
  have g := aKeep_apply bn a2 B hB hlt b n
  generalize aRank bn a2 = r at h g ⊢
  generalize aKeep r a2 = k at g ⊢
  have e : aSlot k bn r (ix2 b n) = Scalar.select (k (ix2 b n)) (IntOp.addi (IntOp.muli (bn (ix2 b n)) 10#32) (r (ix2 b n)))
      810#32 := by
    pointwise [aSlot]
    rfl
  rw [e, g, h, hB]
  unfold slotOf
  cases Spec.keep (B b) (Layer.msk a2 b) n
  · rfl
  · rw [if_pos rfl, BitVec.ofNat_add, BitVec.ofNat_mul]
    rfl

end Words

end Cert.RefVal

end
-- ==== Proof.RefSlots.lean ====
/- The reference's slots: kept particles scattered into their bins' slots, and the dense part's rows read back by the
   particles. The whole reference at an index is the layer. -/
module

public import proofs.«01_k».proof.Proof.RefBin

@[expose] public section

set_option maxRecDepth 16384

noncomputable section

namespace Cert.RefVal

open Cert.ReferenceIdeal Cert.ReferenceIdeal.Gen Idealize.ShloMosaic Idealize.ShloMosaic.TcCoe Idealize.ShloMosaic.StableHlo

/-! ## The arrays as the program spells them -/

/-- The number of every batch. -/
def aBatch : IVec S4x1 32 := broadcastInDim S4x1 ![0] bcast_S4_S4x1_0 (iotaInDim S4 32 0)

/-- The batch as a position to write at. -/
def aRow : IVec S4x8192x1 32 :=
  broadcastInDim S4x8192x1 ![0, 1] bcast_S4x8192_S4x8192x1_0_1 (broadcastInDim S4x8192 ![0, 1] bcast_S4x1_S4x8192_0_1 (select (cmpi .slt aBatch (broadcastInDim S4x1 ![] bcast_S_S4x1 (constantI S_ 32 0#32))) (addi aBatch (broadcastInDim S4x1 ![] bcast_S_S4x1 (constantI S_ 32 4#32))) aBatch))

/-- The slot as a position to write at. -/
def aCol (s : IVec S4x8192 32) : IVec S4x8192x1 32 :=
  broadcastInDim S4x8192x1 ![0, 1] bcast_S4x8192_S4x8192x1_0_1 (select (cmpi .slt s (broadcastInDim S4x8192 ![] bcast_S_S4x8192 (constantI S_ 32 0#32))) (addi s (broadcastInDim S4x8192 ![] bcast_S_S4x8192 (constantI S_ 32 811#32))) s)

/-- Both words of every particle's position. -/
def aIdx (s : IVec S4x8192 32) : IVec S4x8192x2 32 :=
  concatenate S4x8192x2 2 [⟨S4x8192x1, aRow⟩, ⟨S4x8192x1, aCol s⟩] concatenates_S4x8192x1_S4x8192x1_S4x8192x2_d2

/-- The features of the kept particles. -/
def aMasked (a0 : FVec Ideal S4x8192x64 .f32) (k : IVec S4x8192 1) : FVec Ideal S4x8192x64 .f32 :=
  mulf a0 (broadcastInDim S4x8192x64 ![0, 1, 2] bcast_S4x8192x1_S4x8192x64_0_1_2 (uitofp .f32 (broadcastInDim S4x8192x1 ![0, 1] bcast_S4x8192_S4x8192x1_0_1 k)))

/-- The features in their slots. -/
def aScat (i : IVec S4x8192x2 32) (x : FVec Ideal S4x8192x64 .f32) : FVec Ideal S4x811x64 .f32 :=
  Host.scatter scatter_S4x811x64_S4x8192x2_S4x8192x64_2_01_01_2 (fun _ b => b) (broadcastInDim S4x811x64 ![] bcast_S_S4x811x64 (constant S_ .f32 0x00000000#32)) i x

/-- Which slots are taken. -/
def aTaken (i : IVec S4x8192x2 32) (k : IVec S4x8192 1) : IVec S4x811 1 :=
  Host.scatter scatter_S4x811_S4x8192x2_S4x8192_n_01_01_2 (fun _ b => b) (broadcastInDim S4x811 ![] bcast_S_S4x811 (constantI S_ 1 0#1)) i k

/-- The ten slots of every cell side by side. -/
def aSlots (u : FVec Ideal S4x811x64 .f32) (t : IVec S4x811 1) : FVec Ideal S4x9x9x640 .f32 :=
  shapeCast _ (mulf (shapeCast _ (extractStridedSlice S4x810x64 ![0, 0, 0] u slices_S4x811x64_S4x810x64_0_0_0) shapeCasts_S4x810x64_S4x9x9x10x64) (broadcastInDim S4x9x9x10x64 ![0, 1, 2, 3, 4] bcast_S4x9x9x10x1_S4x9x9x10x64_0_1_2_3_4 (uitofp .f32 (broadcastInDim S4x9x9x10x1 ![0, 1, 2, 3] bcast_S4x9x9x10_S4x9x9x10x1_0_1_2_3 (shapeCast _ (extractStridedSlice S4x810 ![0, 0] t slices_S4x811_S4x810_0_0) shapeCasts_S4x810_S4x9x9x10))))) shapeCasts_S4x9x9x10x64_S4x9x9x640

/-- The features of the cells. -/
def aFlat (a0 : FVec Ideal S4x8192x64 .f32) (k : IVec S4x8192 1) (s : IVec S4x8192 32) : FVec Ideal S4x9x9x640 .f32 :=
  aSlots (aScat (aIdx s) (aMasked a0 k)) (aTaken (aIdx s) k)

/-- The bins as columns to read. -/
def aPos (bn : IVec S4x8192 32) : IVec S4x8192x1 32 :=
  let v : IVec S4x1x8192 32 := broadcastInDim S4x1x8192 ![0, 2] bcast_S4x8192_S4x1x8192_0_2 bn
  shapeCast _ (select (cmpi .slt v (broadcastInDim S4x1x8192 ![] bcast_S_S4x1x8192 (constantI S_ 32 0#32))) (addi v (broadcastInDim S4x1x8192 ![] bcast_S_S4x1x8192 (constantI S_ 32 81#32))) v) shapeCasts_S4x1x8192_S4x8192x1

/-- Which of them lie in range. -/
def aPosIn (w : IVec S4x8192x1 32) : IVec S4x8192x1 1 :=
  andi (cmpi .sge w (broadcastInDim S4x8192x1 ![] bcast_S_S4x8192x1 (constantI S_ 32 0#32))) (cmpi .sle w (broadcastInDim S4x8192x1 ![0, 1, 2] bcast_S1x1x1_S4x8192x1_0_1_2 (broadcastInDim S1x1x1 ![2] bcast_S1_S1x1x1_2 (constantI S1 32 80#32))))

/-- Every particle's column. -/
def aRead (w : IVec S4x8192x1 32) (t : FVec Ideal S4x64x81 .f32) : FVec Ideal S4x64x8192 .f32 :=
  select (broadcastInDim S4x64x8192 ![0, 2] bcast_S4x8192_S4x64x8192_0_2 (Host.reduce IntOp.andi (aPosIn w) (constantI S_ 1 1#1) reducesTo_S4x8192x1_S4x8192_d2 h_S_)) (Host.gather gather_S4x64x81_S4x8192x1_S4x64x8192_1_2_0_0_2_2_1641 t w) (broadcastInDim S4x64x8192 ![] bcast_S_S4x64x8192 (constant S_ .f32 0x7FC00000#32))

/-- The columns of the kept particles. -/
def aLast (r : FVec Ideal S4x64x8192 .f32) (k : IVec S4x8192 1) : FVec Ideal S4x8192x64 .f32 :=
  mulf (transpose S4x8192x64 [0, 2, 1] r transposes_S4x64x8192_S4x8192x64_0_2_1) (broadcastInDim S4x8192x64 ![0, 1, 2] bcast_S4x8192x1_S4x8192x64_0_1_2 (uitofp .f32 (broadcastInDim S4x8192x1 ![0, 1] bcast_S4x8192_S4x8192x1_0_1 k)))

/-! ## Slots hold at most one particle -/

theorem rank_mono (B : Fin 8192 → ℕ) (M : Fin 8192 → Bool) (n m : Fin 8192) (h : n < m) (hn : M n = true) (hb : B n = B m) :
    Spec.rank B M n < Spec.rank B M m := by
  unfold Spec.rank
  refine Finset.card_lt_card (Finset.ssubset_iff_of_subset (fun k hk => ?_) |>.2 ⟨n, ?_, ?_⟩)
  · obtain ⟨h1, h2, h3⟩ := (Finset.mem_filter.1 hk).2
    exact Finset.mem_filter.2 ⟨Finset.mem_univ _, h1.trans h, h2, h3.trans hb⟩
  · exact Finset.mem_filter.2 ⟨Finset.mem_univ _, h, hn, hb⟩
  · exact fun hk => lt_irrefl _ (Finset.mem_filter.1 hk).2.1

theorem masked_of_keep (B : Fin 8192 → ℕ) (M : Fin 8192 → Bool) (n : Fin 8192) (h : Spec.keep B M n = true) :
    M n = true ∧ Spec.rank B M n < 10 := by
  unfold Spec.keep at h
  rw [Bool.and_eq_true, decide_eq_true_iff] at h
  exact h

theorem eq_of_slot (B : Fin 8192 → ℕ) (M : Fin 8192 → Bool) (n m : Fin 8192) (hn : Spec.keep B M n = true)
    (hm : Spec.keep B M m = true) (hb : B n = B m) (hr : Spec.rank B M n = Spec.rank B M m) : n = m := by
  rcases lt_trichotomy n m with h | h | h
  · exact absurd hr (rank_mono B M n m h (masked_of_keep B M n hn).1 hb).ne
  · exact h
  · exact absurd hr (rank_mono B M m n h (masked_of_keep B M m hm).1 hb.symm).ne'

theorem slots_hit (B : Fin 8192 → ℕ) (M : Fin 8192 → Bool) (x : Fin 8192 → Fin 64 → EReal) (n : Fin 8192)
    (hn : Spec.keep B M n = true) (f : Fin 64) : Spec.slots B M x (B n) (Spec.rank B M n) f = x n f := by
  unfold Spec.slots
  rw [Finset.sum_eq_single n]
  · exact if_pos ⟨hn, rfl, rfl⟩
  · exact fun m _ h => if_neg fun g => h (eq_of_slot B M m n g.1 hn g.2.1 g.2.2)
  · exact fun h => absurd (Finset.mem_univ _) h

theorem slots_miss (B : Fin 8192 → ℕ) (M : Fin 8192 → Bool) (x : Fin 8192 → Fin 64 → EReal) (i r : ℕ)
    (h : ∀ n, ¬(Spec.keep B M n = true ∧ B n = i ∧ Spec.rank B M n = r)) (f : Fin 64) : Spec.slots B M x i r f = 0 := by
  unfold Spec.slots
  exact Finset.sum_eq_zero fun n _ => if_neg (h n)

theorem slotOf_eq (B : Fin 8192 → ℕ) (M : Fin 8192 → Bool) (n : Fin 8192) (c : ℕ) (hc : c < 810) :
    slotOf B M n = c ↔ Spec.keep B M n = true ∧ B n = c / 10 ∧ Spec.rank B M n = c % 10 := by
  unfold slotOf
  constructor
  · intro h
    by_cases k : Spec.keep B M n = true
    · rw [if_pos k] at h
      have := (masked_of_keep B M n k).2
      exact ⟨k, by omega, by omega⟩
    · rw [if_neg k] at h
      omega
  · rintro ⟨k, h1, h2⟩
    rw [if_pos k]
    omega

/-! ## The scatters -/

theorem toInt_small (k : ℕ) (h : k < 1000) : (BitVec.ofNat 32 k).toInt = (k : ℤ) := by
  rw [BitVec.toInt_eq_toNat_of_lt (by rw [BitVec.toNat_ofNat]; omega), BitVec.toNat_ofNat]
  omega

theorem aRow_apply (b : Fin 4) (n : Fin 8192) : aRow (ix3 b n 0) = BitVec.ofNat 32 b.val := by
  have e : aRow (ix3 b n 0) = Scalar.select (IntOp.cmpi .slt (BitVec.ofNat 32 b.val) 0#32)
      (IntOp.addi (BitVec.ofNat 32 b.val) 4#32) (BitVec.ofNat 32 b.val) := by
    pointwise [aRow, aBatch]
  have hb := b.isLt
  rw [e, Routing.wrap_of_lt]
  rw [BitVec.toNat_ofNat]
  omega

theorem aCol_apply (s : IVec S4x8192 32) (b : Fin 4) (n : Fin 8192) (c : ℕ) (hc : c < 1000)
    (h : s (ix2 b n) = BitVec.ofNat 32 c) : aCol s (ix3 b n 0) = BitVec.ofNat 32 c := by
  have e : aCol s (ix3 b n 0) = Scalar.select (IntOp.cmpi .slt (s (ix2 b n)) 0#32)
      (IntOp.addi (s (ix2 b n)) 811#32) (s (ix2 b n)) := by
    pointwise [aCol]
  rw [e, h, Routing.wrap_of_lt]
  rw [BitVec.toNat_ofNat]
  omega

theorem aIdx_row (s : IVec S4x8192 32) (b : Fin 4) (n : Fin 8192) : (aIdx s (ix3 b n 0)).toInt = (b.val : ℤ) := by
  have h := aRow_apply b n
  have e : aIdx s (ix3 b n 0) = aRow (ix3 b n 0) := by
    unfold aIdx
    generalize aRow = r
    generalize aCol s = c
    pointwise []
  rw [e, h, toInt_small _ (by omega)]

theorem aIdx_col (s : IVec S4x8192 32) (b : Fin 4) (n : Fin 8192) (c : ℕ) (hc : c < 1000)
    (h : s (ix2 b n) = BitVec.ofNat 32 c) : (aIdx s (ix3 b n 1)).toInt = (c : ℤ) := by
  have h := aCol_apply s b n c hc h
  have e : aIdx s (ix3 b n 1) = aCol s (ix3 b n 0) := by
    unfold aIdx
    generalize aRow = r
    generalize aCol s = c
    pointwise []
  rw [e, h, toInt_small _ hc]

theorem aMasked_apply (a0 : FVec Ideal S4x8192x64 .f32) (k : IVec S4x8192 1) (b : Fin 4) (n : Fin 8192) (f : Fin 64) :
    aMasked a0 k (ix3 b n f) = a0 (ix3 b n f) * (if k (ix2 b n) = 1#1 then 1 else 0 : EReal) := by
  have e : aMasked a0 k (ix3 b n f) = a0 (ix3 b n f) * (FloatOps.uitofp (F := Ideal) .f32 (k (ix2 b n)) : EReal) := by
    pointwise [aMasked]
  rw [e]
  exact congrArg (fun y : EReal => a0 (ix3 b n f) * y) (KernelIdeal.HostVal.uitofp_bit _)

theorem aSlots_apply (u : FVec Ideal S4x811x64 .f32) (t : IVec S4x811 1) (b : Fin 4) (p : Fin 81) (k : Fin 640) :
    cellsLast (aSlots u t) b p k
      = u (ix3 b ⟨10 * p.val + k.val / 64, by omega⟩ ⟨k.val % 64, by omega⟩)
        * (if t (ix2 b ⟨10 * p.val + k.val / 64, by omega⟩) = 1#1 then 1 else 0 : EReal) := by
  have e : cellsLast (aSlots u t) b p k
      = u (ix3 b ⟨10 * p.val + k.val / 64, by omega⟩ ⟨k.val % 64, by omega⟩)
        * (FloatOps.uitofp (F := Ideal) .f32 (t (ix2 b ⟨10 * p.val + k.val / 64, by omega⟩)) : EReal) := by
    unfold cellsLast
    pointwise [aSlots]
    simp only [show p.val / 9 * 90 + p.val % 9 * 10 + k.val / 64 = 10 * p.val + k.val / 64 by omega]
  rw [e]
  exact congrArg (fun y : EReal => _ * y) (KernelIdeal.HostVal.uitofp_bit _)

section Slots

variable (a0 : FVec Ideal S4x8192x64 .f32) (kp : IVec S4x8192 1) (s : IVec S4x8192 32)
variable (B : Fin 4 → Fin 8192 → ℕ) (M : Fin 4 → Fin 8192 → Bool)
variable (hs : ∀ b n, s (ix2 b n) = BitVec.ofNat 32 (slotOf (B b) (M b) n))
variable (hk : ∀ b n, kp (ix2 b n) = BitVec.ofBool (Spec.keep (B b) (M b) n)) (hlt : ∀ b n, B b n < 81)

include hlt in
theorem slotOf_lt (b : Fin 4) (n : Fin 8192) : slotOf (B b) (M b) n < 1000 := by
  unfold slotOf
  have := hlt b n
  split
  · next h =>
    have := (masked_of_keep _ _ n h).2
    omega
  · omega

include hs hlt

theorem lands (b b' : Fin 4) (n : Fin 8192) (c : Fin 811) (hc : c.val < 810) :
    ((aIdx s (ix3 b' n 0)).toInt = b.val ∧ (aIdx s (ix3 b' n 1)).toInt = c.val)
      ↔ b' = b ∧ Spec.keep (B b) (M b) n = true ∧ B b n = c.val / 10 ∧ Spec.rank (B b) (M b) n = c.val % 10 := by
  rw [aIdx_row, aIdx_col s b' n _ (slotOf_lt B M hlt b' n) (hs b' n)]
  constructor
  · rintro ⟨h0, h1⟩
    have hb : b' = b := Fin.ext (by omega)
    subst hb
    exact ⟨rfl, (slotOf_eq _ _ n c.val hc).1 (by omega)⟩
  · rintro ⟨rfl, h⟩
    exact ⟨rfl, by rw [(slotOf_eq _ _ n c.val hc).2 h]⟩

include hk

theorem scat_hit (b : Fin 4) (c : Fin 811) (hc : c.val < 810) (f : Fin 64) (n : Fin 8192)
    (hn : Spec.keep (B b) (M b) n = true) (h1 : B b n = c.val / 10) (h2 : Spec.rank (B b) (M b) n = c.val % 10) :
    aScat (aIdx s) (aMasked a0 kp) (ix3 b c f) = a0 (ix3 b n f) := by
  unfold aScat
  refine Routing.scatter_set_hit _ _ _ _ _ _ (fun k hkk => ?_) (ix3 b n f)
    ((feat_lands _ b n f b c f).2 ⟨((lands s B M hs hlt b b n c hc).2 ⟨rfl, hn, h1, h2⟩).1,
      ((lands s B M hs hlt b b n c hc).2 ⟨rfl, hn, h1, h2⟩).2, rfl⟩)
  obtain ⟨b', n', f', rfl⟩ : ∃ b' n' f', k = ix3 b' n' f' := ⟨k 0, k 1, k 2, eq_ix3 k⟩
  obtain ⟨g0, g1, rfl⟩ := (feat_lands _ b' n' f' b c f).1 hkk
  obtain ⟨rfl, g2, g3, g4⟩ := (lands s B M hs hlt b b' n' c hc).1 ⟨g0, g1⟩
  have e : n' = n := eq_of_slot _ _ n' n g2 hn (g3.trans h1.symm) (g4.trans h2.symm)
  subst e
  rw [aMasked_apply, hk, hn, if_pos (show BitVec.ofBool true = 1#1 from rfl)]
  exact mul_one (M := EReal) _

theorem taken_hit (b : Fin 4) (c : Fin 811) (hc : c.val < 810) (n : Fin 8192)
    (hn : Spec.keep (B b) (M b) n = true) (h1 : B b n = c.val / 10) (h2 : Spec.rank (B b) (M b) n = c.val % 10) :
    aTaken (aIdx s) kp (ix2 b c) = 1#1 := by
  unfold aTaken
  refine Routing.scatter_set_hit _ _ _ _ _ _ (fun k hkk => ?_) (ix2 b n)
    ((mask_lands _ b n b c).2 ((lands s B M hs hlt b b n c hc).2 ⟨rfl, hn, h1, h2⟩))
  obtain ⟨b', n', rfl⟩ : ∃ b' n', k = ix2 b' n' := ⟨k 0, k 1, eq_ix2 k⟩
  obtain ⟨rfl, g2, g3, g4⟩ := (lands s B M hs hlt b b' n' c hc).1 ((mask_lands _ b' n' b c).1 hkk)
  rw [hk, g2]
  rfl

theorem taken_miss (b : Fin 4) (c : Fin 811) (hc : c.val < 810)
    (h : ∀ n, ¬(Spec.keep (B b) (M b) n = true ∧ B b n = c.val / 10 ∧ Spec.rank (B b) (M b) n = c.val % 10)) :
    aTaken (aIdx s) kp (ix2 b c) = 0#1 := by
  unfold aTaken
  refine (Routing.scatter_set_miss _ _ _ _ _ fun k hkk => ?_).trans rfl
  obtain ⟨b', n', rfl⟩ : ∃ b' n', k = ix2 b' n' := ⟨k 0, k 1, eq_ix2 k⟩
  exact h n' ((lands s B M hs hlt b b' n' c hc).1 ((mask_lands _ b' n' b c).1 hkk)).2

theorem aFlat_apply (b : Fin 4) (p : Fin 81) (k : Fin 640) :
    cellsLast (aFlat a0 kp s) b p k
      = Spec.slots (B b) (M b) (Layer.feat a0 b) p.val (k.val / 64) ⟨k.val % 64, by omega⟩ := by
  unfold aFlat
  have hc : 10 * p.val + k.val / 64 < 810 := by omega
  have d : (10 * p.val + k.val / 64) / 10 = p.val := by omega
  have r : (10 * p.val + k.val / 64) % 10 = k.val / 64 := by omega
  rw [aSlots_apply]
  by_cases h : ∃ n, Spec.keep (B b) (M b) n = true ∧ B b n = p.val ∧ Spec.rank (B b) (M b) n = k.val / 64
  · obtain ⟨n, hn, h1, h2⟩ := h
    rw [scat_hit a0 kp s B M hs hk hlt b ⟨10 * p.val + k.val / 64, by omega⟩ hc _ n hn (h1.trans d.symm) (h2.trans r.symm),
      taken_hit kp s B M hs hk hlt b ⟨10 * p.val + k.val / 64, by omega⟩ hc n hn (h1.trans d.symm) (h2.trans r.symm),
      if_pos rfl, ← h1, ← h2, slots_hit _ _ _ n hn]
    exact mul_one (M := EReal) _
  · have h' : ∀ n, ¬(Spec.keep (B b) (M b) n = true ∧ B b n = p.val ∧ Spec.rank (B b) (M b) n = k.val / 64) :=
      fun n g => h ⟨n, g⟩
    rw [taken_miss kp s B M hs hk hlt b ⟨10 * p.val + k.val / 64, by omega⟩ hc fun n g =>
        h' n ⟨g.1, g.2.1.trans d, g.2.2.trans r⟩,
      if_neg (by decide), slots_miss _ _ _ _ _ h']
    exact mul_zero (M₀ := EReal) _

end Slots

/-! ## The particles' reads -/

section Reads

variable (bn : IVec S4x8192 32) (B : Fin 4 → Fin 8192 → ℕ)
variable (hB : ∀ b n, bn (ix2 b n) = BitVec.ofNat 32 (B b n)) (hlt : ∀ b n, B b n < 81)

include hB hlt

theorem aPos_apply (b : Fin 4) (n : Fin 8192) (z : Fin 1) : aPos bn (ix3 b n z) = BitVec.ofNat 32 (B b n) := by
  have e : aPos bn (ix3 b n z) = Scalar.select (IntOp.cmpi .slt (bn (ix2 b n)) 0#32)
      (IntOp.addi (bn (ix2 b n)) 81#32) (bn (ix2 b n)) := by
    pointwise [aPos]
  have hb := hlt b n
  rw [e, hB, Routing.wrap_of_lt]
  rw [BitVec.toNat_ofNat]
  omega

theorem aPosIn_at (b : Fin 4) (n : Fin 8192) (z : Fin 1) : aPosIn (aPos bn) (ix3 b n z) = 1#1 := by
  have h := aPos_apply bn B hB hlt b n z
  generalize aPos bn = u at h ⊢
  have e : aPosIn u (ix3 b n z) = IntOp.andi (IntOp.cmpi .sge (u (ix3 b n z)) 0#32) (IntOp.cmpi .sle (u (ix3 b n z)) 80#32) := by
    pointwise [aPosIn]
  rw [e, h]
  have hb := hlt b n
  generalize B b n = k at hb
  interval_cases k <;> decide

theorem aPosIn_apply (i : S4x8192x1.Idx) : aPosIn (aPos bn) i = 1#1 :=
  (congrArg (aPosIn (aPos bn)) (eq_ix3 i)).trans (aPosIn_at bn B hB hlt (i 0) (i 1) (i 2))

theorem aRead_apply (t : FVec Ideal S4x64x81 .f32) (b : Fin 4) (o : Fin 64) (n : Fin 8192) :
    aRead (aPos bn) t (ix3 b o n) = t (ix3 b o ⟨B b n, hlt b n⟩) := by
  have hw := aPos_apply bn B hB hlt b n 0
  have hi := aPosIn_apply bn B hB hlt
  generalize aPos bn = w at hw hi ⊢
  have e : aRead w t (ix3 b o n) = Scalar.select
      (Host.reduce IntOp.andi (aPosIn w) (constantI S_ 1 1#1) reducesTo_S4x8192x1_S4x8192_d2 h_S_ (ix2 b n))
      (Host.gather gather_S4x64x81_S4x8192x1_S4x64x8192_1_2_0_0_2_2_1641 t w (ix3 b o n))
      (Ideal.ofBits .f32 0x7FC00000#32) := by
    unfold aRead
    generalize Host.reduce IntOp.andi (aPosIn w) (constantI S_ 1 1#1) reducesTo_S4x8192x1_S4x8192_d2 h_S_ = r
    generalize Host.gather gather_S4x64x81_S4x8192x1_S4x64x8192_1_2_0_0_2_2_1641 t w = g
    pointwise []
  rw [e, Host.reduce_andi_one _ _ _ _ _ rfl hi, gather_column t w b o n (B b n) (hlt b n) hw]
  rfl

end Reads

theorem aLast_apply (r : FVec Ideal S4x64x8192 .f32) (k : IVec S4x8192 1) (b : Fin 4) (n : Fin 8192) (o : Fin 64) :
    aLast r k (ix3 b n o) = r (ix3 b o n) * (if k (ix2 b n) = 1#1 then 1 else 0 : EReal) := by
  have e : aLast r k (ix3 b n o) = r (ix3 b o n) * (FloatOps.uitofp (F := Ideal) .f32 (k (ix2 b n)) : EReal) := by
    pointwise [aLast]
  rw [e]
  exact congrArg (fun y : EReal => r (ix3 b o n) * y) (KernelIdeal.HostVal.uitofp_bit _)

/-! ## The whole -/

/-- The reference's result as the program spells it. -/
def aAll (a0 : FVec Ideal S4x8192x64 .f32) (a1 : FVec Ideal S4x8192x3 .f32) (a2 : IVec S4x8192 1)
    (a3 : FVec Ideal S640x32 .f32) (a4 : FVec Ideal S32 .f32) (a5 : FVec Ideal S32x32 .f32)
    (a6 : FVec Ideal S32 .f32) (a7 : FVec Ideal S192x32x1x1 .f32) (a8 : FVec Ideal S192x1x5x5 .f32)
    (a9 : FVec Ideal S192x8x1x1 .f32) (a10 : FVec Ideal S64x128x1x1 .f32) (a11 a12 : FVec Ideal S64 .f32) :
    FVec Ideal S4x8192x64 .f32 :=
  let bn := aBin a1
  let rk := aRank bn a2
  let kp := aKeep rk a2
  aLast (aRead (aPos bn) (aDense (aFlat a0 kp (aSlot kp bn rk)) a3 a4 a5 a6 a7 a8 a9 a10 a11 a12)) kp

theorem aAll_eq (a0 : FVec Ideal S4x8192x64 .f32) (a1 : FVec Ideal S4x8192x3 .f32) (a2 : IVec S4x8192 1)
    (a3 : FVec Ideal S640x32 .f32) (a4 : FVec Ideal S32 .f32) (a5 : FVec Ideal S32x32 .f32)
    (a6 : FVec Ideal S32 .f32) (a7 : FVec Ideal S192x32x1x1 .f32) (a8 : FVec Ideal S192x1x5x5 .f32)
    (a9 : FVec Ideal S192x8x1x1 .f32) (a10 : FVec Ideal S64x128x1x1 .f32) (a11 a12 : FVec Ideal S64 .f32) :
    aAll a0 a1 a2 a3 a4 a5 a6 a7 a8 a9 a10 a11 a12
      = Layer.result a0 a1 a2 (weights a3 a4 a5 a6 a7 a8 a9 a10 a11 a12) := by
  have hB := aBin_apply a1
  have hlt := Layer.bins_lt a1
  have hk := aKeep_apply (aBin a1) a2 (Layer.bins a1) hB hlt
  have hs := aSlot_apply (aBin a1) a2 (Layer.bins a1) hB hlt
  have hf := fun b => aFlat_apply a0 _ _ (Layer.bins a1) (Layer.msk a2) hs hk hlt b
  unfold aAll
  dsimp only
  generalize aBin a1 = bn at hB hk hs hf ⊢
  generalize aRank bn a2 = rk at hk hs hf ⊢
  generalize aKeep rk a2 = kp at hk hs hf ⊢
  generalize aFlat a0 kp (aSlot kp bn rk) = t at hf ⊢
  funext i
  obtain ⟨b, n, o, rfl⟩ : ∃ b n o, i = ix3 b n o := ⟨i 0, i 1, i 2, eq_ix3 i⟩
  have hf' : cellsLast t b = fun p k => Spec.slots (Layer.bins a1 b) (Layer.msk a2 b) (Layer.feat a0 b) p.val (k.val / 64)
      ⟨k.val % 64, by omega⟩ := funext fun p => funext fun k => hf b p k
  rw [aLast_apply, aRead_apply bn (Layer.bins a1) hB hlt, aDense_apply, hf', hk]
  show _ = Spec.out _ (Layer.bins a1 b) (Layer.bins_lt a1 b) (Layer.msk a2 b) (Layer.feat a0 b) n o
  unfold Spec.out
  cases Spec.keep (Layer.bins a1 b) (Layer.msk a2 b) n
  · rw [if_neg (by decide), if_neg (by decide)]
    exact mul_zero (M₀ := EReal) _
  · rw [if_pos (by decide), if_pos rfl]
    exact mul_one (M := EReal) _

end Cert.RefVal

end
-- ==== Proof.RefRun.lean ====
/- The reference's run: its result is the layer. -/
module

public import proofs.«01_k».proof.Proof.RefSlots

@[expose] public section

set_option maxRecDepth 16384

noncomputable section

namespace Cert.RefVal

open Cert.ReferenceIdeal Cert.ReferenceIdeal.Gen Cert.ReferenceIdeal.Value Idealize.ShloMosaic Idealize.ShloMosaic.TcCoe
  Idealize.ShloMosaic.StableHlo Idealize.SL.Sem

section Terms

variable (V : Valuation τ sig (Elt Ideal))

theorem v29_eq : res_main_v29 V = aBin (V (Proc.devRef .tc main_arg1)) := rfl

theorem v34_eq : res_main_v34 V = aOne (aBin (V (Proc.devRef .tc main_arg1))) (V (Proc.devRef .tc main_arg2)) := by
  rw [← v29_eq V]; rfl

theorem call4_v5_eq : res_main_call4_v5 V = aWrap (aBin (V (Proc.devRef .tc main_arg1))) := by
  rw [← v29_eq V]; rfl

theorem v39_eq : res_main_v39 V = aRank (aBin (V (Proc.devRef .tc main_arg1))) (V (Proc.devRef .tc main_arg2)) := by
  unfold aRank
  rw [← v34_eq V, ← call4_v5_eq V]; rfl

theorem v42_eq : res_main_v42 V = aKeep (aRank (aBin (V (Proc.devRef .tc main_arg1))) (V (Proc.devRef .tc main_arg2)))
    (V (Proc.devRef .tc main_arg2)) := by
  rw [← v39_eq V]; rfl

theorem v46_eq : res_main_v46 V = aSlot (res_main_v42 V) (res_main_v29 V) (res_main_v39 V) := rfl

theorem v109_eq : res_main_v109 V = aQkv (aHid2 (aHid1 (aFlat (V (Proc.devRef .tc main_arg0)) (res_main_v42 V)
      (res_main_v46 V)) (V (Proc.devRef .tc main_arg3)) (V (Proc.devRef .tc main_arg4)))
      (V (Proc.devRef .tc main_arg5)) (V (Proc.devRef .tc main_arg6))) (V (Proc.devRef .tc main_arg7)) := rfl

theorem v110_eq : res_main_v110 V = aPad (res_main_v109 V) := rfl

theorem v294_eq : res_main_v294 V = aMulti (res_main_v109 V)
    (aPw (aDw (res_main_v110 V) (V (Proc.devRef .tc main_arg8))) (V (Proc.devRef .tc main_arg9))) := rfl

theorem v305_eq : res_main_v305 V = aHead (res_main_v294 V) (aKeyVal (res_main_v294 V)) := rfl

theorem call10_v5_eq : res_main_call10_v5 V = aPos (res_main_v29 V) := rfl

end Terms

/-- The result of the layer, from the reference's arguments. -/
def refLayer (m : (ℓ : Loc nD τ sig) → Buf (Elt Ideal) ℓ) (c : Dev nD) : FVec Ideal S4x8192x64 .f32 :=
  Layer.result (m ((c.tc : Thread nD τ).loc main_arg0)) (m ((c.tc : Thread nD τ).loc main_arg1)) (m ((c.tc : Thread nD τ).loc main_arg2))
    (weights (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)))

theorem last_eq (V : Valuation τ sig (Elt Ideal)) :
    aLast (aRead (res_main_call10_v5 V) (aNorm (aProj (aAtt (res_main_v305 V)) (V (Proc.devRef .tc main_arg10)))
        (V (Proc.devRef .tc main_arg11)) (V (Proc.devRef .tc main_arg12)))) (res_main_v42 V)
      = aAll (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) := by
  rw [call10_v5_eq, v305_eq, v294_eq, v110_eq, v109_eq, v46_eq, v42_eq, v39_eq, v29_eq]
  rfl

/-- The reference runs to the layer's result, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v334) = refLayer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).1.trans (last_eq (launchContents m c))).trans (aAll_eq _ _ _ _ _ _ _ _ _ _ _ _ _),
    (h c).2⟩) (Value.run (F := Ideal) m ρ)

end Cert.RefVal

end
-- ==== Proof.lean ====
/- The certificate's proof: the frames, that idealizing the kernel changes nothing, and that the kernel and the
   reference compute the same array over the extended reals.

   Both runs are brought to one value, `Cert.Layer.result`: the kernel's in `KRun`, the reference's in `RefRun`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- From any start the reference ends with its arguments unchanged and its counters at zero. -/
theorem frame_reference : Cert.quiescent_ReferenceIdeal := fun m ρ _ =>
  (θ_run _ _ _).mono (fun r h => ⟨fun c => (h c).2, Idealize.ShloMosaic.sem_eq_zero_of_no_sems (by decide) r.2⟩)
    (Cert.RefVal.run m ρ)

/-- On equal arguments the kernel and the reference end with the same result. -/
theorem same_result : Cert.algebraic_KernelIdeal_ReferenceIdeal := by
  intro m ρ m' ρ' _ hagree
  refine ⟨fun c => KernelIdeal.LayerVal.layer m c, KernelIdeal.LayerVal.run m ρ, ?_⟩
  refine (θ_run Cert.ReferenceIdeal.defs _ _).mono (fun _ h c => ⟨(h c).1.trans ?_, (h c).2⟩) (Cert.RefVal.run m' ρ')
  obtain ⟨h0, h1, h2, h3, h4, h5, h6, h7, h8, h9, h10, h11, h12⟩ := hagree c
  unfold RefVal.refLayer
  rw [h0, h1, h2, h3, h4, h5, h6, h7, h8, h9, h10, h11, h12]
  rfl

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    same_result⟩

end Cert.Proof

end
